-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_v3_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x128x7168 : Shape := ⟨3, ![1, 128, 7168]⟩
abbrev S18432x7168 : Shape := ⟨2, ![18432, 7168]⟩
abbrev S128x14x512 : Shape := ⟨3, ![128, 14, 512]⟩
abbrev S14x128x512 : Shape := ⟨3, ![14, 128, 512]⟩
abbrev S128x18432 : Shape := ⟨2, ![128, 18432]⟩
abbrev S18432x3584 : Shape := ⟨2, ![18432, 3584]⟩
abbrev S18432x448 : Shape := ⟨2, ![18432, 448]⟩
abbrev S7168x9216 : Shape := ⟨2, ![7168, 9216]⟩
abbrev S7168x1152 : Shape := ⟨2, ![7168, 1152]⟩
abbrev S1x1 : Shape := ⟨2, ![1, 1]⟩
abbrev S2048x512 : Shape := ⟨2, ![2048, 512]⟩
abbrev S128x2048 : Shape := ⟨2, ![128, 2048]⟩
abbrev S2048x256 : Shape := ⟨2, ![2048, 256]⟩
abbrev S2048x448 : Shape := ⟨2, ![2048, 448]⟩
abbrev S512x1024 : Shape := ⟨2, ![512, 1024]⟩
abbrev S512x128 : Shape := ⟨2, ![512, 128]⟩
abbrev S14x1152x512 : Shape := ⟨3, ![14, 1152, 512]⟩
abbrev S72x448x256 : Shape := ⟨3, ![72, 448, 256]⟩
abbrev S8x512x256 : Shape := ⟨3, ![8, 512, 256]⟩
abbrev S128x512 : Shape := ⟨2, ![128, 512]⟩
abbrev S8x128x256 : Shape := ⟨3, ![8, 128, 256]⟩
abbrev S16x512 : Shape := ⟨2, ![16, 512]⟩
abbrev S256x512 : Shape := ⟨2, ![256, 512]⟩
abbrev S16x16x512 : Shape := ⟨3, ![16, 16, 512]⟩
abbrev S512x256 : Shape := ⟨2, ![512, 256]⟩
abbrev S32x16x256 : Shape := ⟨3, ![32, 16, 256]⟩
abbrev S32x256 : Shape := ⟨2, ![32, 256]⟩
abbrev S1x16x512 : Shape := ⟨3, ![1, 16, 512]⟩
abbrev S1x32x256 : Shape := ⟨3, ![1, 32, 256]⟩
abbrev S1 : Shape := ⟨1, ![1]⟩
abbrev S1x1x1 : Shape := ⟨3, ![1, 1, 1]⟩
abbrev S1x128x512 : Shape := ⟨3, ![1, 128, 512]⟩
abbrev S256x256 : Shape := ⟨2, ![256, 256]⟩
abbrev S16x1x512 : Shape := ⟨3, ![16, 1, 512]⟩
abbrev S128x2x512 : Shape := ⟨3, ![128, 2, 512]⟩
abbrev S128x1x512 : Shape := ⟨3, ![128, 1, 512]⟩
abbrev S32x1x256 : Shape := ⟨3, ![32, 1, 256]⟩
abbrev S256x2x256 : Shape := ⟨3, ![256, 2, 256]⟩
abbrev S256x1x256 : Shape := ⟨3, ![256, 1, 256]⟩
abbrev S1x128x256 : Shape := ⟨3, ![1, 128, 256]⟩
abbrev S128x256 : Shape := ⟨2, ![128, 256]⟩
abbrev S1x512x256 : Shape := ⟨3, ![1, 512, 256]⟩
abbrev S256x448 : Shape := ⟨2, ![256, 448]⟩

abbrev nBuf : Space → Nat
  | .hbm => 10
  | .vmem => 20
  | .smem => 0
  | _ => 0

abbrev bufTy : (tb : Table) → Fin (tcTables nBuf tb) → BufTy
  | .hbm, ⟨0, _⟩ => ⟨S1x128x7168, .bf16⟩
  | .hbm, ⟨1, _⟩ => ⟨S18432x7168, .bf16⟩
  | .hbm, ⟨2, _⟩ => ⟨S128x14x512, .bf16⟩
  | .hbm, ⟨3, _⟩ => ⟨S14x128x512, .bf16⟩
  | .hbm, ⟨4, _⟩ => ⟨S128x18432, .bf16⟩
  | .hbm, ⟨5, _⟩ => ⟨S18432x3584, .i8⟩
  | .hbm, ⟨6, _⟩ => ⟨S18432x448, .fp8e4m3⟩
  | .hbm, ⟨7, _⟩ => ⟨S7168x9216, .i8⟩
  | .hbm, ⟨8, _⟩ => ⟨S7168x1152, .fp8e4m3⟩
  | .hbm, ⟨9, _⟩ => ⟨S1x1, .f32⟩
  | .local _ .vmem, ⟨0, _⟩ => ⟨S14x128x512, .bf16⟩
  | .local _ .vmem, ⟨1, _⟩ => ⟨S2048x512, .bf16⟩
  | .local _ .vmem, ⟨2, _⟩ => ⟨S2048x512, .bf16⟩
  | .local _ .vmem, ⟨3, _⟩ => ⟨S128x2048, .bf16⟩
  | .local _ .vmem, ⟨4, _⟩ => ⟨S128x2048, .bf16⟩
  | .local _ .vmem, ⟨5, _⟩ => ⟨S2048x256, .i8⟩
  | .local _ .vmem, ⟨6, _⟩ => ⟨S2048x256, .i8⟩
  | .local _ .vmem, ⟨7, _⟩ => ⟨S2048x448, .fp8e4m3⟩
  | .local _ .vmem, ⟨8, _⟩ => ⟨S2048x448, .fp8e4m3⟩
  | .local _ .vmem, ⟨9, _⟩ => ⟨S512x1024, .i8⟩
  | .local _ .vmem, ⟨10, _⟩ => ⟨S512x1024, .i8⟩
  | .local _ .vmem, ⟨11, _⟩ => ⟨S512x128, .fp8e4m3⟩
  | .local _ .vmem, ⟨12, _⟩ => ⟨S512x128, .fp8e4m3⟩
  | .local _ .vmem, ⟨13, _⟩ => ⟨S1x1, .f32⟩
  | .local _ .vmem, ⟨14, _⟩ => ⟨S14x1152x512, .bf16⟩
  | .local _ .vmem, ⟨15, _⟩ => ⟨S72x448x256, .bf16⟩
  | .local _ .vmem, ⟨16, _⟩ => ⟨S8x512x256, .fp8e4m3⟩
  | .local _ .vmem, ⟨17, _⟩ => ⟨S128x512, .f32⟩
  | .local _ .vmem, ⟨18, _⟩ => ⟨S8x128x256, .f32⟩
  | .local _ .vmem, ⟨19, _⟩ => ⟨S16x512, .f32⟩
  | _, _ => ⟨S1x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev main_v2_5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![2, 9, 14], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_5 : BitVec 32 := 0#32
  let c8_i32 : BitVec 32 := 8#32
  let v11 : BitVec 32 := Scalar.addi c0_i32_5 c8_i32
  let c1_i32_6 : BitVec 32 := 1#32
  ⟨c0_i32_5, v11, c1_i32_6⟩
def k0_mult1 (k0_t1 : Fin k0_t1_loop.trips) : BitVec 32 :=
  let c0_i32_5 : BitVec 32 := 0#32
  let c1_i32_6 : BitVec 32 := 1#32
  let arg17 : BitVec 32 := Scf.iv c0_i32_5 c1_i32_6 k0_t1
  let c256_i32 : BitVec 32 := 256#32
  let v12 : BitVec 32 := Scalar.muli arg17 c256_i32
  v12
def k0_off1 (k0_t1 : Fin k0_t1_loop.trips) : Fin 2 → Nat :=
  let c0_i32_5 : BitVec 32 := 0#32
  let c1_i32_6 : BitVec 32 := 1#32
  let arg17 : BitVec 32 := Scf.iv c0_i32_5 c1_i32_6 k0_t1
  let c256_i32 : BitVec 32 := 256#32
  let v12 : BitVec 32 := Scalar.muli arg17 c256_i32
  let v13 : BitVec 32 := v12
  let v14 : Index := Scalar.indexCast v13
  let c0 : Index := 0#32
  ![v14.toNat, 0]
def k0_mult2 (i : grid0.Coords) (k0_t1 : Fin k0_t1_loop.trips) : BitVec 32 :=
  let arg1 : BitVec 32 := BitVec.ofNat 32 (i 1).val
  let c128_i32 : BitVec 32 := 128#32
  let v22 : BitVec 32 := Scalar.muli arg1 c128_i32
  let c0_i32_5 : BitVec 32 := 0#32
  let c1_i32_6 : BitVec 32 := 1#32
  let arg17 : BitVec 32 := Scf.iv c0_i32_5 c1_i32_6 k0_t1
  let c16_i32 : BitVec 32 := 16#32
  let v23 : BitVec 32 := Scalar.muli arg17 c16_i32
  let v24 : BitVec 32 := Scalar.addi v22 v23
  v24
def k0_off2 (i : grid0.Coords) (k0_t1 : Fin k0_t1_loop.trips) : Fin 3 → Nat :=
  let arg2 : BitVec 32 := BitVec.ofNat 32 (i 2).val
  let v26 : Index := Scalar.indexCast arg2
  let arg1 : BitVec 32 := BitVec.ofNat 32 (i 1).val
  let c128_i32 : BitVec 32 := 128#32
  let v22 : BitVec 32 := Scalar.muli arg1 c128_i32
  let c0_i32_5 : BitVec 32 := 0#32
  let c1_i32_6 : BitVec 32 := 1#32
  let arg17 : BitVec 32 := Scf.iv c0_i32_5 c1_i32_6 k0_t1
  let c16_i32 : BitVec 32 := 16#32
  let v23 : BitVec 32 := Scalar.muli arg17 c16_i32
  let v24 : BitVec 32 := Scalar.addi v22 v23
  let v25 : BitVec 32 := v24
  let v27 : Index := Scalar.indexCast v25
  let c0_9 : Index := 0#32
  ![v26.toNat, v27.toNat, 0]
def k0_mult3 (i : grid0.Coords) : BitVec 32 :=
  let arg2 : BitVec 32 := BitVec.ofNat 32 (i 2).val
  let c32_i32 : BitVec 32 := 32#32
  let v33 : BitVec 32 := Scalar.muli arg2 c32_i32
  v33
def k0_off3 (i : grid0.Coords) (k0_t1 : Fin k0_t1_loop.trips) : Fin 3 → Nat :=
  let arg1 : BitVec 32 := BitVec.ofNat 32 (i 1).val
  let c8_i32_10 : BitVec 32 := 8#32
  let v31 : BitVec 32 := Scalar.muli arg1 c8_i32_10
  let c0_i32_5 : BitVec 32 := 0#32
  let c1_i32_6 : BitVec 32 := 1#32
  let arg17 : BitVec 32 := Scf.iv c0_i32_5 c1_i32_6 k0_t1
  let v32 : BitVec 32 := Scalar.addi v31 arg17
  let v35 : Index := Scalar.indexCast v32
  let arg2 : BitVec 32 := BitVec.ofNat 32 (i 2).val
  let c32_i32 : BitVec 32 := 32#32
  let v33 : BitVec 32 := Scalar.muli arg2 c32_i32
  let v34 : BitVec 32 := v33
  let v36 : Index := Scalar.indexCast v34
  let c0_11 : Index := 0#32
  ![v35.toNat, v36.toNat, 0]
def k0_cond3 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_mult4 (i : grid0.Coords) : BitVec 32 :=
  let arg1 : BitVec 32 := BitVec.ofNat 32 (i 1).val
  let c128_i32 : BitVec 32 := 128#32
  let v18 : BitVec 32 := Scalar.muli arg1 c128_i32
  v18
def k0_off4 (i : grid0.Coords) : Fin 3 → Nat :=
  let arg2 : BitVec 32 := BitVec.ofNat 32 (i 2).val
  let v20 : Index := Scalar.indexCast arg2
  let arg1 : BitVec 32 := BitVec.ofNat 32 (i 1).val
  let c128_i32 : BitVec 32 := 128#32
  let v18 : BitVec 32 := Scalar.muli arg1 c128_i32
  let v19 : BitVec 32 := v18
  let v21 : Index := Scalar.indexCast v19
  let c0_8 : Index := 0#32
  ![v20.toNat, v21.toNat, 0]
@[reducible] def k0_t2_loop : Scf.Loop 32 :=
  let c0_i32_19 : BitVec 32 := 0#32
  let c8_i32 : BitVec 32 := 8#32
  let v54 : BitVec 32 := Scalar.addi c0_i32_19 c8_i32
  let c1_i32_20 : BitVec 32 := 1#32
  ⟨c0_i32_19, v54, c1_i32_20⟩
def k0_mult5 (k0_t2 : Fin k0_t2_loop.trips) : BitVec 32 :=
  let c0_i32_19 : BitVec 32 := 0#32
  let c1_i32_20 : BitVec 32 := 1#32
  let arg17 : BitVec 32 := Scf.iv c0_i32_19 c1_i32_20 k0_t2
  let c256_i32 : BitVec 32 := 256#32
  let v58 : BitVec 32 := Scalar.muli arg17 c256_i32
  v58
def k0_off5 (k0_t2 : Fin k0_t2_loop.trips) : Fin 2 → Nat :=
  let c0_i32_19 : BitVec 32 := 0#32
  let c1_i32_20 : BitVec 32 := 1#32
  let arg17 : BitVec 32 := Scf.iv c0_i32_19 c1_i32_20 k0_t2
  let c256_i32 : BitVec 32 := 256#32
  let v58 : BitVec 32 := Scalar.muli arg17 c256_i32
  let v59 : BitVec 32 := v58
  let v60 : Index := Scalar.indexCast v59
  let c0_23 : Index := 0#32
  ![v60.toNat, 0]
def k0_mult6 (k0_t2 : Fin k0_t2_loop.trips) : BitVec 32 :=
  let c0_i32_19 : BitVec 32 := 0#32
  let c1_i32_20 : BitVec 32 := 1#32
  let arg17 : BitVec 32 := Scf.iv c0_i32_19 c1_i32_20 k0_t2
  let c16_i32 : BitVec 32 := 16#32
  let v63 : BitVec 32 := Scalar.muli arg17 c16_i32
  v63
def k0_off6 (k0_t2 : Fin k0_t2_loop.trips) : Fin 2 → Nat :=
  let c0_i32_19 : BitVec 32 := 0#32
  let c1_i32_20 : BitVec 32 := 1#32
  let arg17 : BitVec 32 := Scf.iv c0_i32_19 c1_i32_20 k0_t2
  let c16_i32 : BitVec 32 := 16#32
  let v63 : BitVec 32 := Scalar.muli arg17 c16_i32
  let v64 : BitVec 32 := v63
  let v65 : Index := Scalar.indexCast v64
  let c0_24 : Index := 0#32
  ![v65.toNat, 0]
def k0_mult7 (k0_t2 : Fin k0_t2_loop.trips) : BitVec 32 :=
  let c0_i32_19 : BitVec 32 := 0#32
  let c1_i32_20 : BitVec 32 := 1#32
  let arg17 : BitVec 32 := Scf.iv c0_i32_19 c1_i32_20 k0_t2
  let c128_i32_40 : BitVec 32 := 128#32
  let v123 : BitVec 32 := Scalar.muli arg17 c128_i32_40
  v123
def k0_off7 (k0_t2 : Fin k0_t2_loop.trips) : Fin 2 → Nat :=
  let c0_41 : Index := 0#32
  let c0_i32_19 : BitVec 32 := 0#32
  let c1_i32_20 : BitVec 32 := 1#32
  let arg17 : BitVec 32 := Scf.iv c0_i32_19 c1_i32_20 k0_t2
  let c128_i32_40 : BitVec 32 := 128#32
  let v123 : BitVec 32 := Scalar.muli arg17 c128_i32_40
  let v124 : BitVec 32 := v123
  let v125 : Index := Scalar.indexCast v124
  ![0, v125.toNat]
def k0_mult8 (i : grid0.Coords) : BitVec 32 :=
  let arg2 : BitVec 32 := BitVec.ofNat 32 (i 2).val
  let c32_i32 : BitVec 32 := 32#32
  let v129 : BitVec 32 := Scalar.muli arg2 c32_i32
  v129
def k0_off8 (i : grid0.Coords) (k0_t2 : Fin k0_t2_loop.trips) : Fin 3 → Nat :=
  let arg1 : BitVec 32 := BitVec.ofNat 32 (i 1).val
  let c8_i32_42 : BitVec 32 := 8#32
  let v127 : BitVec 32 := Scalar.muli arg1 c8_i32_42
  let c0_i32_19 : BitVec 32 := 0#32
  let c1_i32_20 : BitVec 32 := 1#32
  let arg17 : BitVec 32 := Scf.iv c0_i32_19 c1_i32_20 k0_t2
  let v128 : BitVec 32 := Scalar.addi v127 arg17
  let v131 : Index := Scalar.indexCast v128
  let arg2 : BitVec 32 := BitVec.ofNat 32 (i 2).val
  let c32_i32 : BitVec 32 := 32#32
  let v129 : BitVec 32 := Scalar.muli arg2 c32_i32
  let v130 : BitVec 32 := v129
  let v132 : Index := Scalar.indexCast v130
  let c0_43 : Index := 0#32
  ![v131.toNat, v132.toNat, 0]
def k0_mult9 (i : grid0.Coords) : BitVec 32 :=
  let arg2 : BitVec 32 := BitVec.ofNat 32 (i 2).val
  let c32_i32_50 : BitVec 32 := 32#32
  let v154 : BitVec 32 := Scalar.muli arg2 c32_i32_50
  v154
def k0_off9 (i : grid0.Coords) (k0_t2 : Fin k0_t2_loop.trips) : Fin 3 → Nat :=
  let c0_i32_19 : BitVec 32 := 0#32
  let c1_i32_20 : BitVec 32 := 1#32
  let arg17 : BitVec 32 := Scf.iv c0_i32_19 c1_i32_20 k0_t2
  let v156 : Index := Scalar.indexCast arg17
  let arg2 : BitVec 32 := BitVec.ofNat 32 (i 2).val
  let c32_i32_50 : BitVec 32 := 32#32
  let v154 : BitVec 32 := Scalar.muli arg2 c32_i32_50
  let v155 : BitVec 32 := v154
  let v157 : Index := Scalar.indexCast v155
  let c0_51 : Index := 0#32
  ![v156.toNat, v157.toNat, 0]
def k0_off10 (k0_t2 : Fin k0_t2_loop.trips) : Fin 2 → Nat :=
  let c0_i32_19 : BitVec 32 := 0#32
  let c1_i32_20 : BitVec 32 := 1#32
  let arg17 : BitVec 32 := Scf.iv c0_i32_19 c1_i32_20 k0_t2
  let c256_i32 : BitVec 32 := 256#32
  let v58 : BitVec 32 := Scalar.muli arg17 c256_i32
  let v59 : BitVec 32 := v58
  let v222 : Index := Scalar.indexCast v59
  let c0_75 : Index := 0#32
  ![v222.toNat, 0]
def k0_off11 (k0_t2 : Fin k0_t2_loop.trips) : Fin 3 → Nat :=
  let c0_i32_19 : BitVec 32 := 0#32
  let c1_i32_20 : BitVec 32 := 1#32
  let arg17 : BitVec 32 := Scf.iv c0_i32_19 c1_i32_20 k0_t2
  let v256 : Index := Scalar.indexCast arg17
  let c0_86 : Index := 0#32
  let c0_87 : Index := 0#32
  ![v256.toNat, 0, 0]
def k0_off12 (i : grid0.Coords) : Fin 3 → Nat :=
  let arg2 : BitVec 32 := BitVec.ofNat 32 (i 2).val
  let v259 : Index := Scalar.indexCast arg2
  let c0_88 : Index := 0#32
  let c0_89 : Index := 0#32
  ![v259.toNat, 0, 0]
def k0_cond5 (i : grid0.Coords) : BitVec 1 :=
  let arg2 : BitVec 32 := BitVec.ofNat 32 (i 2).val
  let c13_i32 : BitVec 32 := 13#32
  let v55 : BitVec 1 := Scalar.cmpi .eq arg2 c13_i32
  let v56 : BitVec 32 := Scalar.extui v55
  let c0_i32_22 : BitVec 32 := 0#32
  let v57 : BitVec 1 := Scalar.cmpi .ne v56 c0_i32_22
  v57

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg1 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg1 arg0
  let v1 : BitVec 32 := Scalar.muli arg2 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg1 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg2 arg0
  let v1 : BitVec 32 := Scalar.muli arg1 arg0
  let c0_i32 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg2 arg0
  let v1 : BitVec 32 := Scalar.muli arg1 arg0
  let c0_i32 : BitVec 32 := 0#32
  ![v0.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S14x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2048x448 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== ReferenceIdeal.lean ====
abbrev S1x128x7168 : Shape := ⟨3, ![1, 128, 7168]⟩
abbrev S18432x7168 : Shape := ⟨2, ![18432, 7168]⟩
abbrev S128x7168 : Shape := ⟨2, ![128, 7168]⟩
abbrev S128x3584 : Shape := ⟨2, ![128, 3584]⟩
abbrev S128x18432 : Shape := ⟨2, ![128, 18432]⟩
abbrev S18432x3584 : Shape := ⟨2, ![18432, 3584]⟩
abbrev S18432x448 : Shape := ⟨2, ![18432, 448]⟩
abbrev S7168x9216 : Shape := ⟨2, ![7168, 9216]⟩
abbrev S7168x1152 : Shape := ⟨2, ![7168, 1152]⟩
abbrev S1x1 : Shape := ⟨2, ![1, 1]⟩
abbrev S1x18432x7168 : Shape := ⟨3, ![1, 18432, 7168]⟩
abbrev S1 : Shape := ⟨1, ![1]⟩
abbrev S1x1x1 : Shape := ⟨3, ![1, 1, 1]⟩
abbrev S18432x448x16 : Shape := ⟨3, ![18432, 448, 16]⟩
abbrev S18432x448x1 : Shape := ⟨3, ![18432, 448, 1]⟩
abbrev S18432x3584x2 : Shape := ⟨3, ![18432, 3584, 2]⟩
abbrev S18432x3584x1 : Shape := ⟨3, ![18432, 3584, 1]⟩
abbrev S7168x18432 : Shape := ⟨2, ![7168, 18432]⟩
abbrev S7168x1152x16 : Shape := ⟨3, ![7168, 1152, 16]⟩
abbrev S7168x1152x1 : Shape := ⟨3, ![7168, 1152, 1]⟩
abbrev S7168x9216x2 : Shape := ⟨3, ![7168, 9216, 2]⟩
abbrev S7168x9216x1 : Shape := ⟨3, ![7168, 9216, 1]⟩
abbrev S18432x448x8 : Shape := ⟨3, ![18432, 448, 8]⟩

abbrev nBuf : Space → Nat
  | .hbm => 11
  | .vmem => 9
  | .smem => 0
  | _ => 0

abbrev bufTy : (tb : Table) → Fin (tcTables nBuf tb) → BufTy
  | .hbm, ⟨0, _⟩ => ⟨S1x128x7168, .bf16⟩
  | .hbm, ⟨1, _⟩ => ⟨S18432x7168, .bf16⟩
  | .hbm, ⟨2, _⟩ => ⟨S128x7168, .bf16⟩
  | .hbm, ⟨3, _⟩ => ⟨S128x3584, .bf16⟩
  | .hbm, ⟨4, _⟩ => ⟨S128x3584, .bf16⟩
  | .hbm, ⟨5, _⟩ => ⟨S128x18432, .bf16⟩
  | .hbm, ⟨6, _⟩ => ⟨S18432x3584, .i8⟩
  | .hbm, ⟨7, _⟩ => ⟨S18432x448, .fp8e4m3⟩
  | .hbm, ⟨8, _⟩ => ⟨S7168x9216, .i8⟩
  | .hbm, ⟨9, _⟩ => ⟨S7168x1152, .fp8e4m3⟩
  | .hbm, ⟨10, _⟩ => ⟨S1x1, .f32⟩
  | .local _ .vmem, ⟨0, _⟩ => ⟨S128x3584, .bf16⟩
  | .local _ .vmem, ⟨1, _⟩ => ⟨S128x3584, .bf16⟩
  | .local _ .vmem, ⟨2, _⟩ => ⟨S18432x7168, .bf16⟩
  | .local _ .vmem, ⟨3, _⟩ => ⟨S128x18432, .bf16⟩
  | .local _ .vmem, ⟨4, _⟩ => ⟨S18432x3584, .i8⟩
  | .local _ .vmem, ⟨5, _⟩ => ⟨S18432x448, .fp8e4m3⟩
  | .local _ .vmem, ⟨6, _⟩ => ⟨S7168x9216, .i8⟩
  | .local _ .vmem, ⟨7, _⟩ => ⟨S7168x1152, .fp8e4m3⟩
  | .local _ .vmem, ⟨8, _⟩ => ⟨S1x1, .f32⟩
  | _, _ => ⟨S1x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev main_v3_4 : Ref sig .tc := ⟨.hbm, 9, rfl⟩
abbrev main_v3_5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S128x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18432x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x18432 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18432x3584 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S18432x448 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7168x9216 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7168x1152 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Steps.lean ====
/- What the body computes, as functions on the contents of its buffers: each store is a `VecWindow.put` of its
   payload, each load a `VecWindow.window`. For any values `F`. -/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open VecWindow (put window)

/-- The body's condition for the first grid point of phase 0, as the body computes it. -/
abbrev first (i : grid0.Coords) : Prop :=
  Scalar.cmpi .ne (Scalar.extui (Scalar.andi (Scalar.cmpi .eq (BitVec.ofNat 32 (i 1).val) 0#32) (Scalar.cmpi .eq (BitVec.ofNat 32 (i 2).val) 0#32)) : BitVec 32) 0#32 = 1#1

/-- The body's condition for the first point of a row of points, as the body computes it. -/
abbrev rowFirst (i : grid0.Coords) : Prop :=
  Scalar.cmpi .ne (Scalar.extui (Scalar.cmpi .eq (BitVec.ofNat 32 (i 2).val) 0#32) : BitVec 32) 0#32 = 1#1

/-- A grid point is in phase 0 or in phase 1, not both. -/
theorem phase_excl : ∀ i : grid0.Coords, k0_cond1 i = 1#1 → ¬ k0_cond3 i = 1#1 := by decide +kernel

/-! ## Phase 0: the group maxima of one block -/

section phase0
variable (i : grid0.Coords) (h1 : k0_cond1 i = 1#1) (X4 : Vec F S2048x512 .bf16)

/-- The 256 rows of the weight block that trip `k` reads. -/
def rows0 (k : Fin k0_t1_loop.trips) : Vec F S256x512 .bf16 := window X4 (k0_off1 k) S256x512.size (k0_off1_inb i k h1)

/-- The maxima down the columns after the first `k` trips. -/
def colMax (A : Vec F S14x1152x512 .bf16) : ℕ → Vec F S14x1152x512 .bf16
  | 0 => A
  | k + 1 => if h : k < k0_t1_loop.trips then put (colMax A k) (k0_off2 i ⟨k, h⟩) S1x16x512.size (k0_pay4 (rows0 i h1 X4 ⟨k, h⟩)) else colMax A k

/-- The maxima along the rows after the first `k` trips. -/
def rowMax (B : Vec F S72x448x256 .bf16) : ℕ → Vec F S72x448x256 .bf16
  | 0 => B
  | k + 1 => if h : k < k0_t1_loop.trips then put (rowMax B k) (k0_off3 i ⟨k, h⟩) S1x32x256.size (k0_pay5 (rows0 i h1 X4 ⟨k, h⟩)) else rowMax B k

/-- The running maxima of everything after the first `k` trips. -/
def allMax (M : Vec F S16x512 .f32) : ℕ → Vec F S16x512 .f32
  | 0 => M
  | k + 1 => if h : k < k0_t1_loop.trips then k0_pay6 (rows0 i h1 X4 ⟨k, h⟩) (allMax M k) else allMax M k

/-- One more trip stores its column maxima. -/
theorem colMax_succ (A : Vec F S14x1152x512 .bf16) (k : Fin k0_t1_loop.trips) :
    colMax i h1 X4 A (k.val + 1) = put (colMax i h1 X4 A k.val) (k0_off2 i k) S1x16x512.size (k0_pay4 (rows0 i h1 X4 k)) := dif_pos k.isLt
/-- One more trip stores its row maxima. -/
theorem rowMax_succ (B : Vec F S72x448x256 .bf16) (k : Fin k0_t1_loop.trips) :
    rowMax i h1 X4 B (k.val + 1) = put (rowMax i h1 X4 B k.val) (k0_off3 i k) S1x32x256.size (k0_pay5 (rows0 i h1 X4 k)) := dif_pos k.isLt
/-- One more trip joins the running maxima. -/
theorem allMax_succ (M : Vec F S16x512 .f32) (k : Fin k0_t1_loop.trips) :
    allMax i h1 X4 M (k.val + 1) = k0_pay6 (rows0 i h1 X4 k) (allMax i h1 X4 M k.val) := dif_pos k.isLt

end phase0

/-! ## Phase 1: the codes, the scales and the partial products of one block -/

section phase1
variable (i : grid0.Coords) (h3 : k0_cond3 i = 1#1) (st : FVec F S1x1 .f32)
  (X3 : Vec F S14x128x512 .bf16) (X4 : Vec F S2048x512 .bf16) (B : Vec F S72x448x256 .bf16) (N : Vec F S128x512 .f32)

/-- The 256 rows of the weight block that trip `k` reads. -/
def rows1 (k : Fin k0_t2_loop.trips) : Vec F S256x512 .bf16 := window X4 (k0_off5 k) S256x512.size (k0_off5_inb i k h3)
/-- Their reciprocal scales, group by group down the columns. -/
def recips (k : Fin k0_t2_loop.trips) : Vec F S16x512 .f32 := window N (k0_off6 k) S16x512.size (k0_off6_inb i k h3)
/-- Their maxima along the rows. -/
def maxima (k : Fin k0_t2_loop.trips) : Vec F S1x32x256 .bf16 := window B (k0_off8 i k) S1x32x256.size (k0_off8_inb i k h3)
/-- The activations' block. -/
def acts : Vec F S1x128x512 .bf16 := window X3 (k0_off12 i) S1x128x512.size (k0_off12_inb i h3)

/-- The packed codes down the columns, transposed. -/
def encN (w : Vec F S256x512 .bf16) (r : Vec F S16x512 .f32) : IVec S512x128 8 :=
  k0_pay19 (k0_pay10 w r) (k0_pay12 w r) (k0_pay13 w r) (k0_pay14 w r) (k0_pay15 w r) (k0_pay16 w r) (k0_pay17 w r) k0_pay18
/-- The packed codes along the rows. -/
def encK (w : Vec F S256x512 .bf16) (b : FVec F S32x256 .f32) : IVec S256x256 8 :=
  k0_pay31 (k0_pay23 st k0_pay8 w b) (k0_pay24 st k0_pay8 w b) (k0_pay25 st k0_pay8 w b) (k0_pay26 st k0_pay8 w b) (k0_pay27 st k0_pay8 w b) (k0_pay28 st k0_pay8 w b) k0_pay29
/-- The accumulator with one block's product added. -/
def accK (w : Vec F S256x512 .bf16) (s : FVec F S32x256 .fp8e4m3) (b : FVec F S32x256 .f32) (a : Vec F S1x128x256 .f32) (x : Vec F S1x128x512 .bf16) : FVec F S1x128x256 .f32 :=
  k0_pay9 s
    (k0_pay30 (k0_pay23 st k0_pay8 w b) (k0_pay24 st k0_pay8 w b) (k0_pay25 st k0_pay8 w b) (k0_pay26 st k0_pay8 w b) (k0_pay27 st k0_pay8 w b) (k0_pay28 st k0_pay8 w b) k0_pay29)
    (k0_pay32 (k0_pay23 st k0_pay8 w b) (k0_pay24 st k0_pay8 w b) (k0_pay25 st k0_pay8 w b) (k0_pay26 st k0_pay8 w b) (k0_pay27 st k0_pay8 w b) (k0_pay28 st k0_pay8 w b) k0_pay29)
    (k0_pay33 (k0_pay23 st k0_pay8 w b) (k0_pay24 st k0_pay8 w b) (k0_pay25 st k0_pay8 w b) (k0_pay26 st k0_pay8 w b) (k0_pay27 st k0_pay8 w b) (k0_pay28 st k0_pay8 w b) k0_pay29)
    a x

/-- The column codes' block after the first `k` trips. -/
def cnAt (C : Vec F S512x1024 .i8) : ℕ → Vec F S512x1024 .i8
  | 0 => C
  | k + 1 => if h : k < k0_t2_loop.trips then put (cnAt C k) (k0_off7 ⟨k, h⟩) S512x128.size (encN (rows1 i h3 X4 ⟨k, h⟩) (recips i h3 N ⟨k, h⟩)) else cnAt C k
/-- The row scales after the first `k` trips. -/
def skAt (S : Vec F S8x512x256 .fp8e4m3) : ℕ → Vec F S8x512x256 .fp8e4m3
  | 0 => S
  | k + 1 => if h : k < k0_t2_loop.trips then put (skAt S k) (k0_off9 i ⟨k, h⟩) S1x32x256.size (k0_pay22 (k0_pay20 st (maxima i h3 B ⟨k, h⟩))) else skAt S k
/-- The row codes' block after the first `k` trips. -/
def ckAt (C : Vec F S2048x256 .i8) : ℕ → Vec F S2048x256 .i8
  | 0 => C
  | k + 1 => if h : k < k0_t2_loop.trips then put (ckAt C k) (k0_off10 ⟨k, h⟩) S256x256.size (encK st (rows1 i h3 X4 ⟨k, h⟩) (k0_pay21 st (maxima i h3 B ⟨k, h⟩))) else ckAt C k
/-- The accumulators after the first `k` trips. -/
def accAt (A : Vec F S8x128x256 .f32) : ℕ → Vec F S8x128x256 .f32
  | 0 => A
  | k + 1 => if h : k < k0_t2_loop.trips then
      put (accAt A k) (k0_off11 ⟨k, h⟩) S1x128x256.size (accK st (rows1 i h3 X4 ⟨k, h⟩) (k0_pay20 st (maxima i h3 B ⟨k, h⟩)) (k0_pay21 st (maxima i h3 B ⟨k, h⟩))
        (window (accAt A k) (k0_off11 ⟨k, h⟩) S1x128x256.size (k0_off11_inb i ⟨k, h⟩ h3)) (acts i h3 X3)) else accAt A k

/-- One more trip stores its column codes. -/
theorem cnAt_succ (C : Vec F S512x1024 .i8) (k : Fin k0_t2_loop.trips) :
    cnAt i h3 X4 N C (k.val + 1) = put (cnAt i h3 X4 N C k.val) (k0_off7 k) S512x128.size (encN (rows1 i h3 X4 k) (recips i h3 N k)) := dif_pos k.isLt
/-- One more trip stores its row scales. -/
theorem skAt_succ (S : Vec F S8x512x256 .fp8e4m3) (k : Fin k0_t2_loop.trips) :
    skAt i h3 st B S (k.val + 1) = put (skAt i h3 st B S k.val) (k0_off9 i k) S1x32x256.size (k0_pay22 (k0_pay20 st (maxima i h3 B k))) := dif_pos k.isLt
/-- One more trip stores its row codes. -/
theorem ckAt_succ (C : Vec F S2048x256 .i8) (k : Fin k0_t2_loop.trips) :
    ckAt i h3 st X4 B C (k.val + 1) = put (ckAt i h3 st X4 B C k.val) (k0_off10 k) S256x256.size (encK st (rows1 i h3 X4 k) (k0_pay21 st (maxima i h3 B k))) := dif_pos k.isLt
/-- One more trip adds its product to the accumulator. -/
theorem accAt_succ (A : Vec F S8x128x256 .f32) (k : Fin k0_t2_loop.trips) :
    accAt i h3 st X3 X4 B A (k.val + 1) = put (accAt i h3 st X3 X4 B A k.val) (k0_off11 k) S1x128x256.size (accK st (rows1 i h3 X4 k) (k0_pay20 st (maxima i h3 B k)) (k0_pay21 st (maxima i h3 B k))
        (window (accAt i h3 st X3 X4 B A k.val) (k0_off11 k) S1x128x256.size (k0_off11_inb i k h3)) (acts i h3 X3)) := dif_pos k.isLt

end phase1

end Cert.KernelIdeal.Hand

end
-- ==== Proof.HandFrame.lean ====
/- The frame of `KernelIdeal`: the body's triple with every buffer it may write left at some contents, the
   pipeline's body obligation from it, and the run. -/
module

public import proofs.«01_k».proof.Proof.Gen.KernelIdeal.Frame
public import proofs.«01_k».proof.Proof.Gen.KernelIdeal.Loops
public import proofs.«01_k».proof.Proof.Steps
public import Idealize.ShloMosaic.Lib.Pipeline.DatRel
public import Idealize.ShloMosaic.Lib.Pipeline.ArrRel

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The body on whole memrefs: the two inputs are left as found, every other memref at some contents. -/
theorem body_any (c : Dev nD) (E : Set ℕ) (i : grid0.Coords) (arg3 : Memref sig .tc .vmem S14x128x512 .bf16) (harg3 : arg3.IsWhole) (arg4 : Memref sig .tc .vmem S2048x512 .bf16) (harg4 : arg4.IsWhole) (arg5 : Memref sig .tc .vmem S128x2048 .bf16) (harg5 : arg5.IsWhole) (arg6 : Memref sig .tc .vmem S2048x256 .i8) (harg6 : arg6.IsWhole) (arg7 : Memref sig .tc .vmem S2048x448 .fp8e4m3) (harg7 : arg7.IsWhole) (arg8 : Memref sig .tc .vmem S512x1024 .i8) (harg8 : arg8.IsWhole) (arg9 : Memref sig .tc .vmem S512x128 .fp8e4m3) (harg9 : arg9.IsWhole) (arg10 : Memref sig .tc .vmem S1x1 .f32) (harg10 : arg10.IsWhole) (arg11 : Memref sig .tc .vmem S14x1152x512 .bf16) (harg11 : arg11.IsWhole) (arg12 : Memref sig .tc .vmem S72x448x256 .bf16) (harg12 : arg12.IsWhole) (arg13 : Memref sig .tc .vmem S8x512x256 .fp8e4m3) (harg13 : arg13.IsWhole) (arg14 : Memref sig .tc .vmem S128x512 .f32) (harg14 : arg14.IsWhole) (arg15 : Memref sig .tc .vmem S8x128x256 .f32) (harg15 : arg15.IsWhole) (arg16 : Memref sig .tc .vmem S16x512 .f32) (harg16 : arg16.IsWhole)
    (x3 : Vec F S14x128x512 .bf16) (x4 : Vec F S2048x512 .bf16) (Kt : PUnit → sProp 𝕄) :
    iprop(owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ Kt ⟨⟩))
      ⊢ wp frame (wpE (defs₀ (F := F)) Variants.none c none) E (cc0__body i arg3 harg3 arg4 harg4 arg5 harg5 arg6 harg6 arg7 harg7 arg8 harg8 arg9 harg9 arg10 harg10 arg11 harg11 arg12 harg12 arg13 harg13 arg14 harg14 arg15 harg15 arg16 harg16) Kt := by
  simp only [cc0__body_eq_skeleton]; unfold cc0__body_skel
  simp only [k0_part5_eq_skeleton, k0_part6_eq_skeleton, k0_part7_eq_skeleton, k0_part8_eq_skeleton]
  unfold owns
  iintro ⟨⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  subst hf3 hf4
  by_cases h1 : k0_cond1 i = 1#1
  · have h3 := phase_excl i h1
    by_cases h2 : first i
    · sl_exec
      sl_step
      iapply Hk
      isplitl [H3]
      · iexists f3; isplitr; · ipureintro; rfl
        iexact H3
      isplitl [H4]
      · iexists f4; isplitr; · ipureintro; rfl
        iexact H4
      isplitl [H5]
      · iexists _; iexists _; isplitr; swap; · iexact H5
        ipureintro; rfl
      isplitl [H6]
      · iexists _; iexists _; isplitr; swap; · iexact H6
        ipureintro; rfl
      isplitl [H7]
      · iexists _; iexists _; isplitr; swap; · iexact H7
        ipureintro; rfl
      isplitl [H8]
      · iexists _; iexists _; isplitr; swap; · iexact H8
        ipureintro; rfl
      isplitl [H9]
      · iexists _; iexists _; isplitr; swap; · iexact H9
        ipureintro; rfl
      isplitl [H10]
      · iexists _; iexists _; isplitr; swap; · iexact H10
        ipureintro; rfl
      isplitl [H11]
      · iexists _; iexists _; isplitr; swap; · iexact H11
        ipureintro; rfl
      isplitl [H12]
      · iexists _; iexists _; isplitr; swap; · iexact H12
        ipureintro; rfl
      isplitl [H13]
      · iexists _; iexists _; isplitr; swap; · iexact H13
        ipureintro; rfl
      isplitl [H14]
      · iexists _; iexists _; isplitr; swap; · iexact H14
        ipureintro; rfl
      isplitl [H15]
      · iexists _; iexists _; isplitr; swap; · iexact H15
        ipureintro; rfl
      iexists _; iexists _; isplitr; swap; · iexact H16
      ipureintro; rfl
    · sl_exec
      sl_step
      iapply Hk
      isplitl [H3]
      · iexists f3; isplitr; · ipureintro; rfl
        iexact H3
      isplitl [H4]
      · iexists f4; isplitr; · ipureintro; rfl
        iexact H4
      isplitl [H5]
      · iexists _; iexists _; isplitr; swap; · iexact H5
        ipureintro; rfl
      isplitl [H6]
      · iexists _; iexists _; isplitr; swap; · iexact H6
        ipureintro; rfl
      isplitl [H7]
      · iexists _; iexists _; isplitr; swap; · iexact H7
        ipureintro; rfl
      isplitl [H8]
      · iexists _; iexists _; isplitr; swap; · iexact H8
        ipureintro; rfl
      isplitl [H9]
      · iexists _; iexists _; isplitr; swap; · iexact H9
        ipureintro; rfl
      isplitl [H10]
      · iexists _; iexists _; isplitr; swap; · iexact H10
        ipureintro; rfl
      isplitl [H11]
      · iexists _; iexists _; isplitr; swap; · iexact H11
        ipureintro; rfl
      isplitl [H12]
      · iexists _; iexists _; isplitr; swap; · iexact H12
        ipureintro; rfl
      isplitl [H13]
      · iexists _; iexists _; isplitr; swap; · iexact H13
        ipureintro; rfl
      isplitl [H14]
      · iexists _; iexists _; isplitr; swap; · iexact H14
        ipureintro; rfl
      isplitl [H15]
      · iexists _; iexists _; isplitr; swap; · iexact H15
        ipureintro; rfl
      iexists _; iexists _; isplitr; swap; · iexact H16
      ipureintro; rfl
  · by_cases h3 : k0_cond3 i = 1#1
    · sl_exec
      sl_step
      iapply Hk
      isplitl [H3]
      · iexists f3; isplitr; · ipureintro; rfl
        iexact H3
      isplitl [H4]
      · iexists f4; isplitr; · ipureintro; rfl
        iexact H4
      isplitl [H5]
      · iexists _; iexists _; isplitr; swap; · iexact H5
        ipureintro; rfl
      isplitl [H6]
      · iexists _; iexists _; isplitr; swap; · iexact H6
        ipureintro; rfl
      isplitl [H7]
      · iexists _; iexists _; isplitr; swap; · iexact H7
        ipureintro; rfl
      isplitl [H8]
      · iexists _; iexists _; isplitr; swap; · iexact H8
        ipureintro; rfl
      isplitl [H9]
      · iexists _; iexists _; isplitr; swap; · iexact H9
        ipureintro; rfl
      isplitl [H10]
      · iexists _; iexists _; isplitr; swap; · iexact H10
        ipureintro; rfl
      isplitl [H11]
      · iexists _; iexists _; isplitr; swap; · iexact H11
        ipureintro; rfl
      isplitl [H12]
      · iexists _; iexists _; isplitr; swap; · iexact H12
        ipureintro; rfl
      isplitl [H13]
      · iexists _; iexists _; isplitr; swap; · iexact H13
        ipureintro; rfl
      isplitl [H14]
      · iexists _; iexists _; isplitr; swap; · iexact H14
        ipureintro; rfl
      isplitl [H15]
      · iexists _; iexists _; isplitr; swap; · iexact H15
        ipureintro; rfl
      iexists _; iexists _; isplitr; swap; · iexact H16
      ipureintro; rfl
    · sl_exec
      sl_step
      iapply Hk
      isplitl [H3]
      · iexists f3; isplitr; · ipureintro; rfl
        iexact H3
      isplitl [H4]
      · iexists f4; isplitr; · ipureintro; rfl
        iexact H4
      isplitl [H5]
      · iexists _; iexists _; isplitr; swap; · iexact H5
        ipureintro; rfl
      isplitl [H6]
      · iexists _; iexists _; isplitr; swap; · iexact H6
        ipureintro; rfl
      isplitl [H7]
      · iexists _; iexists _; isplitr; swap; · iexact H7
        ipureintro; rfl
      isplitl [H8]
      · iexists _; iexists _; isplitr; swap; · iexact H8
        ipureintro; rfl
      isplitl [H9]
      · iexists _; iexists _; isplitr; swap; · iexact H9
        ipureintro; rfl
      isplitl [H10]
      · iexists _; iexists _; isplitr; swap; · iexact H10
        ipureintro; rfl
      isplitl [H11]
      · iexists _; iexists _; isplitr; swap; · iexact H11
        ipureintro; rfl
      isplitl [H12]
      · iexists _; iexists _; isplitr; swap; · iexact H12
        ipureintro; rfl
      isplitl [H13]
      · iexists _; iexists _; isplitr; swap; · iexact H13
        ipureintro; rfl
      isplitl [H14]
      · iexists _; iexists _; isplitr; swap; · iexact H14
        ipureintro; rfl
      isplitl [H15]
      · iexists _; iexists _; isplitr; swap; · iexact H15
        ipureintro; rfl
      iexists _; iexists _; isplitr; swap; · iexact H16
      ipureintro; rfl

open Idealize.ShloMosaic.Pipeline (Dat RDat BodyObligationRel)

variable (m : (ℓ : Loc nD τ sig) → Buf (Elt F) ℓ) (ρ : Dev nD → PrngReg)

/-- The proof data of the frame: the inputs' staging buffers at their blocks, nothing said of the outputs'
    (their windows are forgotten below), the scratch at some contents throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨_ + 2, _⟩ => fun _ => Classical.arbitrary _
  Φ _ := Pipeline.ΦA spec0 c
  q _ := fullShare
  owed _ := 0

/-- The windows whose contents are forgotten: the six outputs'. -/
def fgt : Fin cfg0.W → Bool := fun w => decide (2 ≤ w.val)

/-- Each window's array starts with what the region finds in its buffer. -/
theorem A_eq (c : Dev nD) (w : Fin cfg0.W) : (dats m 0 c).A w = V m c (Pipeline.arrRef spec0 w) := by
  dsimp only [dats]
/-- The body leaves the activations' block as it was. -/
theorem after0_0 (c : Dev nD) (t : Fin cfg0.N) : (dats m 0 c).after 0 t = iblk m c 0 t := by dsimp only [dats]
/-- The body leaves the weights' block as it was. -/
theorem after0_1 (c : Dev nD) (t : Fin cfg0.N) : (dats m 0 c).after 1 t = iblk m c 1 t := by dsimp only [dats]
/-- Before the body the activations' window holds the point's block. -/
theorem before0_0 (c : Dev nD) (t : Fin cfg0.N) (d) : (dats m 0 c).before 0 t d = iblk m c 0 t :=
  before0_0_of m (dats m 0 c) (A_eq m c 0) (after0_0 m c) t d
/-- Before the body the weights' window holds the point's block. -/
theorem before0_1 (c : Dev nD) (t : Fin cfg0.N) (d) : (dats m 0 c).before 1 t d = iblk m c 1 t :=
  before0_1_of m (dats m 0 c) (A_eq m c 1) (after0_1 m c) t d

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation with the outputs forgotten. -/
theorem body_obligation (c : Dev nD) :
    BodyObligationRel (dats (F := F) m 0 c) (defs₀ (F := F)) Variants.none () Set.univ fgt (fun _ _ _ => True) := fun t => by
  rw [bigSep_W0, bigSep_W0, defs₀_row]
  show iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ Y, ⌜_⌝ ∗ owns (c : Thread nD τ) (st0_2 t) fullShare Y)
    ∗ (∃ Y, ⌜_⌝ ∗ owns (c : Thread nD τ) (st0_3 t) fullShare Y)
    ∗ (∃ Y, ⌜_⌝ ∗ owns (c : Thread nD τ) (st0_4 t) fullShare Y)
    ∗ (∃ Y, ⌜_⌝ ∗ owns (c : Thread nD τ) (st0_5 t) fullShare Y)
    ∗ (∃ Y, ⌜_⌝ ∗ owns (c : Thread nD τ) (st0_6 t) fullShare Y)
    ∗ (∃ Y, ⌜_⌝ ∗ owns (c : Thread nD τ) (st0_7 t) fullShare Y)) ⊢
   wp frame (wpE (defs₀ (F := F)) Variants.none c none) Set.univ (bodyAt0 t) fun _ =>
    iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ X, ⌜True⌝ ∗ owns (c : Thread nD τ) (st0_2 t) fullShare X)
    ∗ (∃ X, ⌜True⌝ ∗ owns (c : Thread nD τ) (st0_3 t) fullShare X)
    ∗ (∃ X, ⌜True⌝ ∗ owns (c : Thread nD τ) (st0_4 t) fullShare X)
    ∗ (∃ X, ⌜True⌝ ∗ owns (c : Thread nD τ) (st0_5 t) fullShare X)
    ∗ (∃ X, ⌜True⌝ ∗ owns (c : Thread nD τ) (st0_6 t) fullShare X)
    ∗ (∃ X, ⌜True⌝ ∗ owns (c : Thread nD τ) (st0_7 t) fullShare X))
  simp only [before0_0, before0_1]
  rw [show (dats m 0 c).owesAt () t.succ = (dats m 0 c).owesAt () t.castSucc from rfl,
    show (dats m 0 c).Φ t.castSucc = Pipeline.ΦA spec0 c from rfl,
    show (dats m 0 c).Φ t.succ = Pipeline.ΦA spec0 c from rfl, after0_0, after0_1]
  unfold Pipeline.ΦA
  rw [scopedRest0_eq]
  simp only [← owns_whole]
  unfold bodyAt0
  iintro ⟨⟨⟨⟨%d11, S11⟩, ⟨%d12, S12⟩, ⟨%d13, S13⟩, ⟨%d14, S14⟩, ⟨%d15, S15⟩, ⟨%d16, S16⟩⟩, Hr⟩, Ho, ⟨%d0, H0⟩, ⟨%d1, H1⟩, ⟨%d2, -, H2⟩, ⟨%d3, -, H3⟩, ⟨%d4, -, H4⟩, ⟨%d5, -, H5⟩, ⟨%d6, -, H6⟩, ⟨%d7, -, H7⟩⟩
  iapply (body_any c Set.univ (grid0.coords t) _ _ _ _ _ _ _ _ _ _ _ _ _ _ _ _ _ _ _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [S11]; · iexists _; iexact S11
  isplitl [S12]; · iexists _; iexact S12
  isplitl [S13]; · iexists _; iexact S13
  isplitl [S14]; · iexists _; iexact S14
  isplitl [S15]; · iexists _; iexact S15
  isplitl [S16]; · iexists _; iexact S16
  iintro ⟨H0, H1, ⟨%e2, H2⟩, ⟨%e3, H3⟩, ⟨%e4, H4⟩, ⟨%e5, H5⟩, ⟨%e6, H6⟩, ⟨%e7, H7⟩, S11, S12, S13, S14, S15, S16⟩
  isplitl [S11 S12 S13 S14 S15 S16 Hr]
  · isplitr [Hr]
    · isplitl [S11]; · iexact S11
      isplitl [S12]; · iexact S12
      isplitl [S13]; · iexact S13
      isplitl [S14]; · iexact S14
      isplitl [S15]; · iexact S15
      iexact S16
    iexact Hr
  isplitl [Ho]; · iexact Ho
  isplitl [H0]; · iexact H0
  isplitl [H1]; · iexact H1
  isplitl [H2]
  · iexists _; isplitr; · ipureintro; trivial
    iexact H2
  isplitl [H3]
  · iexists _; isplitr; · ipureintro; trivial
    iexact H3
  isplitl [H4]
  · iexists _; isplitr; · ipureintro; trivial
    iexact H4
  isplitl [H5]
  · iexists _; isplitr; · ipureintro; trivial
    iexact H5
  isplitl [H6]
  · iexists _; isplitr; · ipureintro; trivial
    iexact H6
  iexists _; isplitr; · ipureintro; trivial
  iexact H7

/-- The run: every execution ends with the inputs' arrays as the region found them. -/
theorem run_frame : θ_run defs (onTc (τ := τ) (main (F := F))) (s₀ m ρ)
    (fun r => Pipeline.RDat.FramePost cfg0 (fun c => (dats m 0 c).toRRel fgt (fun _ _ _ => True)) (V m) r ∧ r.2.sem = fun _ => 0) :=
  Pipeline.RDat.θ_run_frame_track (Q' := _) cfgs (0 : Fin 1) launch0 defs₀ Variants.none
    (fun c => (dats m 0 c).toRRel fgt (fun _ _ _ => True)) m ρ main
    (hbody := fun c => (body_obligation m c).toRRel) (hshare := fun c => (dats m 0 c).share_full fun _ => rfl)
    (howed := fun _ _ => rfl) (V := V m) (hmain := hmain m Variants.none) (hA := A_eq m)
    (hin := fun _ => .rfl) (hout := fun _ => .rfl)

/-- THE FRAME: the argument arrays end unchanged and every semaphore counter at zero, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      (Pipeline.RDat.FramePost.arr_in h.1 c 1 rfl).trans ((A_eq m c 1).trans (V_main_arg1 m c))⟩, h.2⟩) (run_frame m ρ)

end Cert.KernelIdeal.Hand

end
-- ==== Proof.HandFrameBits.lean ====
/- The frame of `Kernel`: the body's triple with every buffer it may write left at some contents, the
   pipeline's body obligation from it, and the run. -/
module

public import proofs.«01_k».proof.Proof.Gen.Kernel.Frame
public import proofs.«01_k».proof.Proof.Gen.Kernel.Loops
public import Idealize.ShloMosaic.Lib.Pipeline.DatRel
public import Idealize.ShloMosaic.Lib.Pipeline.ArrRel

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's condition for the first grid point of phase 0, as the body computes it. -/
abbrev first (i : grid0.Coords) : Prop :=
  Scalar.cmpi .ne (Scalar.extui (Scalar.andi (Scalar.cmpi .eq (BitVec.ofNat 32 (i 1).val) 0#32) (Scalar.cmpi .eq (BitVec.ofNat 32 (i 2).val) 0#32)) : BitVec 32) 0#32 = 1#1

/-- A grid point is in phase 0 or in phase 1, not both. -/
theorem phase_excl : ∀ i : grid0.Coords, k0_cond1 i = 1#1 → ¬ k0_cond3 i = 1#1 := by decide +kernel

set_option maxHeartbeats 4000000 in
/-- The body on whole memrefs: the two inputs are left as found, every other memref at some contents. -/
theorem body_any (c : Dev nD) (E : Set ℕ) (i : grid0.Coords) (arg3 : Memref sig .tc .vmem S14x128x512 .bf16) (harg3 : arg3.IsWhole) (arg4 : Memref sig .tc .vmem S2048x512 .bf16) (harg4 : arg4.IsWhole) (arg5 : Memref sig .tc .vmem S128x2048 .bf16) (harg5 : arg5.IsWhole) (arg6 : Memref sig .tc .vmem S2048x256 .i8) (harg6 : arg6.IsWhole) (arg7 : Memref sig .tc .vmem S2048x448 .fp8e4m3) (harg7 : arg7.IsWhole) (arg8 : Memref sig .tc .vmem S512x1024 .i8) (harg8 : arg8.IsWhole) (arg9 : Memref sig .tc .vmem S512x128 .fp8e4m3) (harg9 : arg9.IsWhole) (arg10 : Memref sig .tc .vmem S1x1 .f32) (harg10 : arg10.IsWhole) (arg11 : Memref sig .tc .vmem S14x1152x512 .bf16) (harg11 : arg11.IsWhole) (arg12 : Memref sig .tc .vmem S72x448x256 .bf16) (harg12 : arg12.IsWhole) (arg13 : Memref sig .tc .vmem S8x512x256 .fp8e4m3) (harg13 : arg13.IsWhole) (arg14 : Memref sig .tc .vmem S128x512 .f32) (harg14 : arg14.IsWhole) (arg15 : Memref sig .tc .vmem S8x128x256 .f32) (harg15 : arg15.IsWhole) (arg16 : Memref sig .tc .vmem S16x512 .f32) (harg16 : arg16.IsWhole)
    (x3 : Vec F S14x128x512 .bf16) (x4 : Vec F S2048x512 .bf16) (Kt : PUnit → sProp 𝕄) :
    iprop(owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ Kt ⟨⟩))
      ⊢ wp frame (wpE (defs₀ (F := F)) Variants.none c none) E (cc0__body i arg3 harg3 arg4 harg4 arg5 harg5 arg6 harg6 arg7 harg7 arg8 harg8 arg9 harg9 arg10 harg10 arg11 harg11 arg12 harg12 arg13 harg13 arg14 harg14 arg15 harg15 arg16 harg16) Kt := by
  simp only [cc0__body_eq_skeleton]; unfold cc0__body_skel
  simp only [k0_part5_eq_skeleton, k0_part6_eq_skeleton, k0_part7_eq_skeleton, k0_part8_eq_skeleton]
  unfold owns
  iintro ⟨⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  subst hf3 hf4
  by_cases h1 : k0_cond1 i = 1#1
  · have h3 := phase_excl i h1
    by_cases h2 : first i
    · sl_exec
      sl_step
      iapply Hk
      isplitl [H3]
      · iexists f3; isplitr; · ipureintro; rfl
        iexact H3
      isplitl [H4]
      · iexists f4; isplitr; · ipureintro; rfl
        iexact H4
      isplitl [H5]
      · iexists _; iexists _; isplitr; swap; · iexact H5
        ipureintro; rfl
      isplitl [H6]
      · iexists _; iexists _; isplitr; swap; · iexact H6
        ipureintro; rfl
      isplitl [H7]
      · iexists _; iexists _; isplitr; swap; · iexact H7
        ipureintro; rfl
      isplitl [H8]
      · iexists _; iexists _; isplitr; swap; · iexact H8
        ipureintro; rfl
      isplitl [H9]
      · iexists _; iexists _; isplitr; swap; · iexact H9
        ipureintro; rfl
      isplitl [H10]
      · iexists _; iexists _; isplitr; swap; · iexact H10
        ipureintro; rfl
      isplitl [H11]
      · iexists _; iexists _; isplitr; swap; · iexact H11
        ipureintro; rfl
      isplitl [H12]
      · iexists _; iexists _; isplitr; swap; · iexact H12
        ipureintro; rfl
      isplitl [H13]
      · iexists _; iexists _; isplitr; swap; · iexact H13
        ipureintro; rfl
      isplitl [H14]
      · iexists _; iexists _; isplitr; swap; · iexact H14
        ipureintro; rfl
      isplitl [H15]
      · iexists _; iexists _; isplitr; swap; · iexact H15
        ipureintro; rfl
      iexists _; iexists _; isplitr; swap; · iexact H16
      ipureintro; rfl
    · sl_exec
      sl_step
      iapply Hk
      isplitl [H3]
      · iexists f3; isplitr; · ipureintro; rfl
        iexact H3
      isplitl [H4]
      · iexists f4; isplitr; · ipureintro; rfl
        iexact H4
      isplitl [H5]
      · iexists _; iexists _; isplitr; swap; · iexact H5
        ipureintro; rfl
      isplitl [H6]
      · iexists _; iexists _; isplitr; swap; · iexact H6
        ipureintro; rfl
      isplitl [H7]
      · iexists _; iexists _; isplitr; swap; · iexact H7
        ipureintro; rfl
      isplitl [H8]
      · iexists _; iexists _; isplitr; swap; · iexact H8
        ipureintro; rfl
      isplitl [H9]
      · iexists _; iexists _; isplitr; swap; · iexact H9
        ipureintro; rfl
      isplitl [H10]
      · iexists _; iexists _; isplitr; swap; · iexact H10
        ipureintro; rfl
      isplitl [H11]
      · iexists _; iexists _; isplitr; swap; · iexact H11
        ipureintro; rfl
      isplitl [H12]
      · iexists _; iexists _; isplitr; swap; · iexact H12
        ipureintro; rfl
      isplitl [H13]
      · iexists _; iexists _; isplitr; swap; · iexact H13
        ipureintro; rfl
      isplitl [H14]
      · iexists _; iexists _; isplitr; swap; · iexact H14
        ipureintro; rfl
      isplitl [H15]
      · iexists _; iexists _; isplitr; swap; · iexact H15
        ipureintro; rfl
      iexists _; iexists _; isplitr; swap; · iexact H16
      ipureintro; rfl
  · by_cases h3 : k0_cond3 i = 1#1
    · sl_exec
      sl_step
      iapply Hk
      isplitl [H3]
      · iexists f3; isplitr; · ipureintro; rfl
        iexact H3
      isplitl [H4]
      · iexists f4; isplitr; · ipureintro; rfl
        iexact H4
      isplitl [H5]
      · iexists _; iexists _; isplitr; swap; · iexact H5
        ipureintro; rfl
      isplitl [H6]
      · iexists _; iexists _; isplitr; swap; · iexact H6
        ipureintro; rfl
      isplitl [H7]
      · iexists _; iexists _; isplitr; swap; · iexact H7
        ipureintro; rfl
      isplitl [H8]
      · iexists _; iexists _; isplitr; swap; · iexact H8
        ipureintro; rfl
      isplitl [H9]
      · iexists _; iexists _; isplitr; swap; · iexact H9
        ipureintro; rfl
      isplitl [H10]
      · iexists _; iexists _; isplitr; swap; · iexact H10
        ipureintro; rfl
      isplitl [H11]
      · iexists _; iexists _; isplitr; swap; · iexact H11
        ipureintro; rfl
      isplitl [H12]
      · iexists _; iexists _; isplitr; swap; · iexact H12
        ipureintro; rfl
      isplitl [H13]
      · iexists _; iexists _; isplitr; swap; · iexact H13
        ipureintro; rfl
      isplitl [H14]
      · iexists _; iexists _; isplitr; swap; · iexact H14
        ipureintro; rfl
      isplitl [H15]
      · iexists _; iexists _; isplitr; swap; · iexact H15
        ipureintro; rfl
      iexists _; iexists _; isplitr; swap; · iexact H16
      ipureintro; rfl
    · sl_exec
      sl_step
      iapply Hk
      isplitl [H3]
      · iexists f3; isplitr; · ipureintro; rfl
        iexact H3
      isplitl [H4]
      · iexists f4; isplitr; · ipureintro; rfl
        iexact H4
      isplitl [H5]
      · iexists _; iexists _; isplitr; swap; · iexact H5
        ipureintro; rfl
      isplitl [H6]
      · iexists _; iexists _; isplitr; swap; · iexact H6
        ipureintro; rfl
      isplitl [H7]
      · iexists _; iexists _; isplitr; swap; · iexact H7
        ipureintro; rfl
      isplitl [H8]
      · iexists _; iexists _; isplitr; swap; · iexact H8
        ipureintro; rfl
      isplitl [H9]
      · iexists _; iexists _; isplitr; swap; · iexact H9
        ipureintro; rfl
      isplitl [H10]
      · iexists _; iexists _; isplitr; swap; · iexact H10
        ipureintro; rfl
      isplitl [H11]
      · iexists _; iexists _; isplitr; swap; · iexact H11
        ipureintro; rfl
      isplitl [H12]
      · iexists _; iexists _; isplitr; swap; · iexact H12
        ipureintro; rfl
      isplitl [H13]
      · iexists _; iexists _; isplitr; swap; · iexact H13
        ipureintro; rfl
      isplitl [H14]
      · iexists _; iexists _; isplitr; swap; · iexact H14
        ipureintro; rfl
      isplitl [H15]
      · iexists _; iexists _; isplitr; swap; · iexact H15
        ipureintro; rfl
      iexists _; iexists _; isplitr; swap; · iexact H16
      ipureintro; rfl

open Idealize.ShloMosaic.Pipeline (Dat RDat BodyObligationRel)

variable (m : (ℓ : Loc nD τ sig) → Buf (Elt F) ℓ) (ρ : Dev nD → PrngReg)

/-- The proof data of the frame: the inputs' staging buffers at their blocks, nothing said of the outputs'
    (their windows are forgotten below), the scratch at some contents throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨_ + 2, _⟩ => fun _ => Classical.arbitrary _
  Φ _ := Pipeline.ΦA spec0 c
  q _ := fullShare
  owed _ := 0

/-- The windows whose contents are forgotten: the six outputs'. -/
def fgt : Fin cfg0.W → Bool := fun w => decide (2 ≤ w.val)

/-- Each window's array starts with what the region finds in its buffer. -/
theorem A_eq (c : Dev nD) (w : Fin cfg0.W) : (dats m 0 c).A w = V m c (Pipeline.arrRef spec0 w) := by
  dsimp only [dats]
/-- The body leaves the activations' block as it was. -/
theorem after0_0 (c : Dev nD) (t : Fin cfg0.N) : (dats m 0 c).after 0 t = iblk m c 0 t := by dsimp only [dats]
/-- The body leaves the weights' block as it was. -/
theorem after0_1 (c : Dev nD) (t : Fin cfg0.N) : (dats m 0 c).after 1 t = iblk m c 1 t := by dsimp only [dats]
/-- Before the body the activations' window holds the point's block. -/
theorem before0_0 (c : Dev nD) (t : Fin cfg0.N) (d) : (dats m 0 c).before 0 t d = iblk m c 0 t :=
  before0_0_of m (dats m 0 c) (A_eq m c 0) (after0_0 m c) t d
/-- Before the body the weights' window holds the point's block. -/
theorem before0_1 (c : Dev nD) (t : Fin cfg0.N) (d) : (dats m 0 c).before 1 t d = iblk m c 1 t :=
  before0_1_of m (dats m 0 c) (A_eq m c 1) (after0_1 m c) t d

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation with the outputs forgotten. -/
theorem body_obligation (c : Dev nD) :
    BodyObligationRel (dats (F := F) m 0 c) (defs₀ (F := F)) Variants.none () Set.univ fgt (fun _ _ _ => True) := fun t => by
  rw [bigSep_W0, bigSep_W0, defs₀_row]
  show iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ Y, ⌜_⌝ ∗ owns (c : Thread nD τ) (st0_2 t) fullShare Y)
    ∗ (∃ Y, ⌜_⌝ ∗ owns (c : Thread nD τ) (st0_3 t) fullShare Y)
    ∗ (∃ Y, ⌜_⌝ ∗ owns (c : Thread nD τ) (st0_4 t) fullShare Y)
    ∗ (∃ Y, ⌜_⌝ ∗ owns (c : Thread nD τ) (st0_5 t) fullShare Y)
    ∗ (∃ Y, ⌜_⌝ ∗ owns (c : Thread nD τ) (st0_6 t) fullShare Y)
    ∗ (∃ Y, ⌜_⌝ ∗ owns (c : Thread nD τ) (st0_7 t) fullShare Y)) ⊢
   wp frame (wpE (defs₀ (F := F)) Variants.none c none) Set.univ (bodyAt0 t) fun _ =>
    iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ X, ⌜True⌝ ∗ owns (c : Thread nD τ) (st0_2 t) fullShare X)
    ∗ (∃ X, ⌜True⌝ ∗ owns (c : Thread nD τ) (st0_3 t) fullShare X)
    ∗ (∃ X, ⌜True⌝ ∗ owns (c : Thread nD τ) (st0_4 t) fullShare X)
    ∗ (∃ X, ⌜True⌝ ∗ owns (c : Thread nD τ) (st0_5 t) fullShare X)
    ∗ (∃ X, ⌜True⌝ ∗ owns (c : Thread nD τ) (st0_6 t) fullShare X)
    ∗ (∃ X, ⌜True⌝ ∗ owns (c : Thread nD τ) (st0_7 t) fullShare X))
  simp only [before0_0, before0_1]
  rw [show (dats m 0 c).owesAt () t.succ = (dats m 0 c).owesAt () t.castSucc from rfl,
    show (dats m 0 c).Φ t.castSucc = Pipeline.ΦA spec0 c from rfl,
    show (dats m 0 c).Φ t.succ = Pipeline.ΦA spec0 c from rfl, after0_0, after0_1]
  unfold Pipeline.ΦA
  rw [scopedRest0_eq]
  simp only [← owns_whole]
  unfold bodyAt0
  iintro ⟨⟨⟨⟨%d11, S11⟩, ⟨%d12, S12⟩, ⟨%d13, S13⟩, ⟨%d14, S14⟩, ⟨%d15, S15⟩, ⟨%d16, S16⟩⟩, Hr⟩, Ho, ⟨%d0, H0⟩, ⟨%d1, H1⟩, ⟨%d2, -, H2⟩, ⟨%d3, -, H3⟩, ⟨%d4, -, H4⟩, ⟨%d5, -, H5⟩, ⟨%d6, -, H6⟩, ⟨%d7, -, H7⟩⟩
  iapply (body_any c Set.univ (grid0.coords t) _ _ _ _ _ _ _ _ _ _ _ _ _ _ _ _ _ _ _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [S11]; · iexists _; iexact S11
  isplitl [S12]; · iexists _; iexact S12
  isplitl [S13]; · iexists _; iexact S13
  isplitl [S14]; · iexists _; iexact S14
  isplitl [S15]; · iexists _; iexact S15
  isplitl [S16]; · iexists _; iexact S16
  iintro ⟨H0, H1, ⟨%e2, H2⟩, ⟨%e3, H3⟩, ⟨%e4, H4⟩, ⟨%e5, H5⟩, ⟨%e6, H6⟩, ⟨%e7, H7⟩, S11, S12, S13, S14, S15, S16⟩
  isplitl [S11 S12 S13 S14 S15 S16 Hr]
  · isplitr [Hr]
    · isplitl [S11]; · iexact S11
      isplitl [S12]; · iexact S12
      isplitl [S13]; · iexact S13
      isplitl [S14]; · iexact S14
      isplitl [S15]; · iexact S15
      iexact S16
    iexact Hr
  isplitl [Ho]; · iexact Ho
  isplitl [H0]; · iexact H0
  isplitl [H1]; · iexact H1
  isplitl [H2]
  · iexists _; isplitr; · ipureintro; trivial
    iexact H2
  isplitl [H3]
  · iexists _; isplitr; · ipureintro; trivial
    iexact H3
  isplitl [H4]
  · iexists _; isplitr; · ipureintro; trivial
    iexact H4
  isplitl [H5]
  · iexists _; isplitr; · ipureintro; trivial
    iexact H5
  isplitl [H6]
  · iexists _; isplitr; · ipureintro; trivial
    iexact H6
  iexists _; isplitr; · ipureintro; trivial
  iexact H7

/-- The run: every execution ends with the inputs' arrays as the region found them. -/
theorem run_frame : θ_run defs (onTc (τ := τ) (main (F := F))) (s₀ m ρ)
    (fun r => Pipeline.RDat.FramePost cfg0 (fun c => (dats m 0 c).toRRel fgt (fun _ _ _ => True)) (V m) r ∧ r.2.sem = fun _ => 0) :=
  Pipeline.RDat.θ_run_frame_track (Q' := _) cfgs (0 : Fin 1) launch0 defs₀ Variants.none
    (fun c => (dats m 0 c).toRRel fgt (fun _ _ _ => True)) m ρ main
    (hbody := fun c => (body_obligation m c).toRRel) (hshare := fun c => (dats m 0 c).share_full fun _ => rfl)
    (howed := fun _ _ => rfl) (V := V m) (hmain := hmain m Variants.none) (hA := A_eq m)
    (hin := fun _ => .rfl) (hout := fun _ => .rfl)

/-- THE FRAME: the argument arrays end unchanged and every semaphore counter at zero, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      (Pipeline.RDat.FramePost.arr_in h.1 c 1 rfl).trans ((A_eq m c 1).trans (V_main_arg1 m c))⟩, h.2⟩) (run_frame m ρ)

end Cert.Kernel.Hand

end
-- ==== Proof.Spec.lean ====
/-
The four-bit quantiser over the extended reals: the scales, the codes, the packing and
the decoding, as plain functions of a weight matrix indexed by natural numbers.
-/
module
public import Idealize.ShloMosaic.Lib.Pointwise
@[expose] public section
set_option maxRecDepth 16384
noncomputable section
open Idealize.ShloMosaic Idealize.ShloMosaic.TcCoe Idealize.SL.Sem
namespace Cert.Spec

/-! ### Constants -/

/-- The f32 constant 1/4. -/
theorem c_quarter : Ideal.ofBits FTy.f32 0x3E800000#32 = ((1/4 : ℝ) : EReal) := by
  simp [Ideal.ofBits, Ideal.ieee]; rw [← EReal.coe_mul]; congr 1; norm_num
/-- The f32 constant 1/2. -/
theorem c_half : Ideal.ofBits FTy.f32 0x3F000000#32 = ((1/2 : ℝ) : EReal) := by
  simp [Ideal.ofBits, Ideal.ieee]; rw [← EReal.coe_mul]; congr 1; norm_num
/-- The f32 constant 3/4. -/
theorem c_34 : Ideal.ofBits FTy.f32 0x3F400000#32 = ((3/4 : ℝ) : EReal) := by
  simp [Ideal.ofBits, Ideal.ieee]; rw [← EReal.coe_mul]; congr 1; norm_num
/-- The f32 constant 5/4. -/
theorem c_54 : Ideal.ofBits FTy.f32 0x3FA00000#32 = ((5/4 : ℝ) : EReal) := by
  simp [Ideal.ofBits, Ideal.ieee]; rw [← EReal.coe_mul]; congr 1; norm_num
/-- The f32 constant 3/2. -/
theorem c_32 : Ideal.ofBits FTy.f32 0x3FC00000#32 = ((3/2 : ℝ) : EReal) := by
  simp [Ideal.ofBits, Ideal.ieee]; rw [← EReal.coe_mul]; congr 1; norm_num
/-- The f32 constant 7/4. -/
theorem c_74 : Ideal.ofBits FTy.f32 0x3FE00000#32 = ((7/4 : ℝ) : EReal) := by
  simp [Ideal.ofBits, Ideal.ieee]; rw [← EReal.coe_mul]; congr 1; norm_num
/-- The f32 constant 2. -/
theorem c_2 : Ideal.ofBits FTy.f32 0x40000000#32 = ((2 : ℝ) : EReal) := by
  simp [Ideal.ofBits, Ideal.ieee]; rw [← EReal.coe_mul]; congr 1; norm_num
/-- The f32 constant 5/2. -/
theorem c_52 : Ideal.ofBits FTy.f32 0x40200000#32 = ((5/2 : ℝ) : EReal) := by
  simp [Ideal.ofBits, Ideal.ieee]; rw [← EReal.coe_mul]; congr 1; norm_num
/-- The f32 constant 3. -/
theorem c_3 : Ideal.ofBits FTy.f32 0x40400000#32 = ((3 : ℝ) : EReal) := by
  simp [Ideal.ofBits, Ideal.ieee]; rw [← EReal.coe_mul]; congr 1; norm_num
/-- The f32 constant 7/2. -/
theorem c_72 : Ideal.ofBits FTy.f32 0x40600000#32 = ((7/2 : ℝ) : EReal) := by
  simp [Ideal.ofBits, Ideal.ieee]; rw [← EReal.coe_mul]; congr 1; norm_num
/-- The f32 constant 4. -/
theorem c_4 : Ideal.ofBits FTy.f32 0x40800000#32 = ((4 : ℝ) : EReal) := by
  simp [Ideal.ofBits, Ideal.ieee]; rw [← EReal.coe_mul]; congr 1; norm_num
/-- The f32 constant 5. -/
theorem c_5 : Ideal.ofBits FTy.f32 0x40A00000#32 = ((5 : ℝ) : EReal) := by
  simp [Ideal.ofBits, Ideal.ieee]; rw [← EReal.coe_mul]; congr 1; norm_num
/-- The f32 constant 6. -/
theorem c_6 : Ideal.ofBits FTy.f32 0x40C00000#32 = ((6 : ℝ) : EReal) := by
  simp [Ideal.ofBits, Ideal.ieee]; rw [← EReal.coe_mul]; congr 1; norm_num
/-- The f32 constant 8. -/
theorem c_8 : Ideal.ofBits FTy.f32 0x41000000#32 = ((8 : ℝ) : EReal) := by
  simp [Ideal.ofBits, Ideal.ieee]; rw [← EReal.coe_mul]; congr 1; norm_num
/-- The f32 constant 448. -/
theorem c_448 : Ideal.ofBits FTy.f32 0x43E00000#32 = ((448 : ℝ) : EReal) := by
  simp [Ideal.ofBits, Ideal.ieee]; rw [← EReal.coe_mul]; congr 1; norm_num
/-- The f32 constant 2688. -/
theorem c_2688 : Ideal.ofBits FTy.f32 0x45280000#32 = ((2688 : ℝ) : EReal) := by
  simp [Ideal.ofBits, Ideal.ieee]; rw [← EReal.coe_mul]; congr 1; norm_num
/-- The f32 constant -6. -/
theorem c_m6 : Ideal.ofBits FTy.f32 0xC0C00000#32 = ((-6 : ℝ) : EReal) := by
  simp [Ideal.ofBits, Ideal.ieee]; rw [← EReal.coe_mul]; congr 1; norm_num
/-- The f32 constant minus infinity. -/
theorem c_bot : Ideal.ofBits FTy.f32 0xFF800000#32 = ⊥ := by
  simp [Ideal.ofBits, Ideal.ieee]
/-- The bf16 constant minus infinity. -/
theorem c_bot16 : Ideal.ofBits FTy.bf16 0xFF80#16 = ⊥ := by
  simp [Ideal.ofBits, Ideal.ieee]

/-! ### The mathematics -/

/-- The absolute value. -/
def ab (x : EReal) : EReal := max x (-x)

/-- The absolute value is not negative. -/
theorem ab_nonneg (x : EReal) : 0 ≤ ab x := by
  unfold ab
  rcases le_total 0 x with h | h
  · exact le_max_of_le_left h
  · exact le_max_of_le_right (by simpa using EReal.neg_le_neg_iff.mpr h)

/-- A matrix read at natural indices, zero outside. -/
def mat {a b : ℕ} (f : Fin a → Fin b → EReal) (n k : ℕ) : EReal :=
  if h : n < a ∧ k < b then f ⟨n, h.1⟩ ⟨k, h.2⟩ else 0

/-- A matrix read at an index that lies in it. -/
theorem mat_eq {a b : ℕ} (f : Fin a → Fin b → EReal) {n k : ℕ} (i : Fin a) (j : Fin b)
    (hi : n = i.1) (hj : k = j.1) : mat f n k = f i j := by
  subst hi hj; exact dif_pos ⟨i.2, j.2⟩

/-- The largest magnitude of a block of sixteen values. -/
def amax (f : Fin 16 → EReal) : EReal := Finset.univ.fold max ⊥ fun i => ab (f i)

/-- The largest magnitude of the sixteen values of block `g` of row `n`. -/
def kmax (W : ℕ → ℕ → EReal) (n g : ℕ) : EReal := amax fun i => W n (g * 16 + i.1)

/-- The largest magnitude of the sixteen values of block `R` of column `k`. -/
def nmax (W : ℕ → ℕ → EReal) (R k : ℕ) : EReal := amax fun i => W (R * 16 + i.1) k

/-- The largest magnitude of the whole matrix. -/
def tmax (W : ℕ → ℕ → EReal) : EReal := ⨆ p : Fin 18432 × Fin 7168, ab (W p.1 p.2)

/-- The tensor scale. -/
def ts (W : ℕ → ℕ → EReal) : EReal := Ideal.div (tmax W) ((2688 : ℝ) : EReal)

/-- The scale of a block with largest magnitude `b` under the tensor scale `st`. -/
def scale (st b : EReal) : EReal := min (Ideal.div b (st * ((6 : ℝ) : EReal))) ((448 : ℝ) : EReal)

/-- The reciprocal of a positive step, zero otherwise. -/
def rcp (d : EReal) : EReal := if 0 < d then Ideal.div 1 (if 0 < d then d else 1) else 0

/-- A value clipped into the range of the code. -/
def clip (v : EReal) : EReal := min ((6 : ℝ) : EReal) (max ((-6 : ℝ) : EReal) v)

/-- The magnitude part of the code, by thresholds. -/
def mcode (a : EReal) : BitVec 32 :=
  if ((5 : ℝ) : EReal) < a then 7#32 else if ((7/2 : ℝ) : EReal) ≤ a then 6#32
  else if ((5/2 : ℝ) : EReal) < a then 5#32 else if ((7/4 : ℝ) : EReal) ≤ a then 4#32
  else if ((5/4 : ℝ) : EReal) < a then 3#32 else if ((3/4 : ℝ) : EReal) ≤ a then 2#32
  else if ((1/4 : ℝ) : EReal) < a then 1#32 else 0#32

/-- The four-bit code of a value: magnitude by thresholds, sign in bit three. -/
def code (v : EReal) : BitVec 32 := if v < 0 then mcode (ab v) + 8#32 else mcode (ab v)

/-- Two codes in one byte, the first one low. -/
def pack (lo hi : BitVec 32) : BitVec 8 := BitVec.setWidth 8 (lo + hi * 16#32)

/-- The decoded value of a code. -/
def dec (c : BitVec 32) : EReal :=
  let m := Scalar.select (IntOp.cmpi .sge c 8#32) (IntOp.subi c 8#32) c
  let f : EReal := ((m.toInt : ℝ) : EReal)
  let mag := Scalar.select (IntOp.cmpi .slt m 4#32) (f * ((1/2 : ℝ) : EReal))
    (Scalar.select (IntOp.cmpi .slt m 6#32) (f - ((2 : ℝ) : EReal))
      (((2 : ℝ) : EReal) * f - ((8 : ℝ) : EReal)))
  Scalar.select (IntOp.cmpi .sge c 8#32) (0 - mag) mag

/-- Bit `k` of a code, as the reference tests it. -/
def bit (c k : BitVec 32) : BitVec 1 := IntOp.cmpi .ne (IntOp.andi c k) 0#32

/-- The decoded value of a code by its bits, as the reference states it. -/
def rdec (c : BitVec 32) : EReal :=
  let mag := Scalar.select (bit c 4#32)
    (Scalar.select (bit c 2#32) (Scalar.select (bit c 1#32) ((6 : ℝ) : EReal) ((4 : ℝ) : EReal))
      (Scalar.select (bit c 1#32) ((3 : ℝ) : EReal) ((2 : ℝ) : EReal)))
    (Scalar.select (bit c 2#32) (Scalar.select (bit c 1#32) ((3/2 : ℝ) : EReal) 1)
      (Scalar.select (bit c 1#32) ((1/2 : ℝ) : EReal) 0))
  Scalar.select (bit c 8#32) (0 - mag) mag

section
variable (W X : ℕ → ℕ → EReal)

/-- The scale of block `g` of row `n`. -/
def sk (n g : ℕ) : EReal := scale (ts W) (kmax W n g)
/-- The scale of block `R` of column `k`. -/
def sn (k R : ℕ) : EReal := scale (ts W) (nmax W R k)
/-- Entry `(n, k)` divided by the step of its row block, clipped. -/
def kval (n k : ℕ) : EReal := clip (W n k * rcp (sk W n (k / 16) * ts W))
/-- Entry `(n, k)` divided by the step of its column block, clipped. -/
def nval (n k : ℕ) : EReal := clip (W n k * rcp (sn W k (n / 16) * ts W))
/-- The code of entry `(n, k)` under the scale of its row block. -/
def kcode (n k : ℕ) : BitVec 32 := code (kval W n k)
/-- The code of entry `(n, k)` under the scale of its column block. -/
def ncode (n k : ℕ) : BitVec 32 := code (nval W n k)
/-- The packed row codes. -/
def ck (n j : ℕ) : BitVec 8 := pack (kcode W n (2 * j)) (kcode W n (2 * j + 1))
/-- The packed column codes. -/
def cn (k j : ℕ) : BitVec 8 := pack (ncode W (2 * j) k) (ncode W (2 * j + 1) k)
/-- One term of the product. -/
def term (b n k : ℕ) : EReal := X b k * (dec (kcode W n k) * sk W n (k / 16))
/-- The product with the dequantised matrix. -/
def yy (b n : ℕ) : EReal := (∑ k ∈ Finset.range 7168, term W X b n k) * ts W
end

/-! ### The code by rounding -/

/-- Round to the nearest of the two-decimal grid, as the reference states it. -/
def grid (a : EReal) : EReal :=
  if a < ((2 : ℝ) : EReal) then Ideal.div (Ideal.liftRound Ideal.roundHalfEven (((2 : ℝ) : EReal) * a)) ((2 : ℝ) : EReal)
  else if a < ((4 : ℝ) : EReal) then Ideal.liftRound Ideal.roundHalfEven a
  else ((2 : ℝ) : EReal) * Ideal.liftRound Ideal.roundHalfEven (Ideal.div a ((2 : ℝ) : EReal))

/-- The index of a grid value. -/
def gidx (q : EReal) : EReal :=
  if q < ((2 : ℝ) : EReal) then ((2 : ℝ) : EReal) * q
  else if q < ((4 : ℝ) : EReal) then q + ((2 : ℝ) : EReal)
  else Ideal.div q ((2 : ℝ) : EReal) + ((4 : ℝ) : EReal)

/-- What lies within a half of an even integer, ends included, rounds to it. -/
theorem rhe_even {r : ℝ} (n : ℤ) (he : Even n) (h1 : (n : ℝ) - 1/2 ≤ r) (h2 : r ≤ n + 1/2) :
    Ideal.roundHalfEven r = n := by
  unfold Ideal.roundHalfEven
  rcases lt_or_ge r n with h | h
  · have hf : ⌊r⌋ = n - 1 := by
      rw [Int.floor_eq_iff]; push_cast; constructor <;> linarith
    have hne : ¬ Even (n - 1) := by
      rw [Int.not_even_iff_odd]; exact he.sub_odd odd_one
    simp only [hf, hne, if_false]
    push_cast
    split_ifs with a b
    · linarith
    · ring_nf
    · ring_nf
  · have hf : ⌊r⌋ = n := by
      rw [Int.floor_eq_iff]; constructor <;> linarith
    simp only [hf, he, if_true]
    split_ifs with a b
    · rfl
    · linarith
    · rfl

/-- What lies strictly within a half of an integer rounds to it. -/
theorem rhe_near {r : ℝ} (n : ℤ) (h1 : (n : ℝ) - 1/2 < r) (h2 : r < n + 1/2) :
    Ideal.roundHalfEven r = n := by
  unfold Ideal.roundHalfEven
  rcases lt_or_ge r n with h | h
  · have hf : ⌊r⌋ = n - 1 := by
      rw [Int.floor_eq_iff]; push_cast; constructor <;> linarith
    simp only [hf]
    push_cast
    rw [if_neg (by linarith), if_pos (by linarith)]
    ring_nf
  · have hf : ⌊r⌋ = n := by
      rw [Int.floor_eq_iff]; constructor <;> linarith
    simp only [hf]
    rw [if_pos (by linarith)]

/-- Below two the grid has steps of a half. -/
theorem grid_coe_lo {a : ℝ} (n : ℤ) (h : a < 2) (hr : Ideal.roundHalfEven (2 * a) = n) :
    grid (a : EReal) = (((n : ℝ) / 2 : ℝ) : EReal) := by
  unfold grid
  rw [if_pos (EReal.coe_lt_coe_iff.mpr h), ← EReal.coe_mul, Ideal.liftRound_coe, hr,
    Ideal.div_coe (by norm_num), ← EReal.coe_mul]
  congr 1; ring

/-- From two to four the grid has steps of one. -/
theorem grid_coe_mid {a : ℝ} (n : ℤ) (h : 2 ≤ a) (h' : a < 4) (hr : Ideal.roundHalfEven a = n) :
    grid (a : EReal) = ((n : ℝ) : EReal) := by
  unfold grid
  rw [if_neg (by rw [EReal.coe_lt_coe_iff]; linarith), if_pos (EReal.coe_lt_coe_iff.mpr h'),
    Ideal.liftRound_coe, hr]

/-- From four on the grid has steps of two. -/
theorem grid_coe_hi {a : ℝ} (n : ℤ) (h' : 4 ≤ a) (hr : Ideal.roundHalfEven (a / 2) = n) :
    grid (a : EReal) = ((2 * (n : ℝ) : ℝ) : EReal) := by
  unfold grid
  rw [if_neg (by rw [EReal.coe_lt_coe_iff]; linarith), if_neg (by rw [EReal.coe_lt_coe_iff]; linarith),
    Ideal.div_coe (by norm_num), ← EReal.coe_mul, Ideal.liftRound_coe,
    show a * (1 / 2) = a / 2 by ring, hr, ← EReal.coe_mul]

/-- The index of a real grid value, as a real. -/
theorem gidx_coe (q : ℝ) : gidx (q : EReal)
    = ((if q < 2 then 2 * q else if q < 4 then q + 2 else q / 2 + 4 : ℝ) : EReal) := by
  unfold gidx
  simp only [EReal.coe_lt_coe_iff]
  split_ifs
  · rw [← EReal.coe_mul]
  · rw [← EReal.coe_add]
  · rw [Ideal.div_coe (by norm_num), ← EReal.coe_mul, ← EReal.coe_add]
    congr 1; ring

/-- Rounding to the grid and taking the index is the threshold code. -/
theorem mcode_eq {a : ℝ} (h0 : 0 ≤ a) (h6 : a ≤ 6) :
    Ideal.fptosi 32 (gidx (grid (a : EReal))) = mcode (a : EReal) := by
  have fin : ∀ (q r : ℝ) (n : ℕ), grid (a : EReal) = (q : EReal) →
      (if q < 2 then 2 * q else if q < 4 then q + 2 else q / 2 + 4) = r → r = n → n < 8 →
      Ideal.fptosi 32 (gidx (grid (a : EReal))) = BitVec.ofNat 32 n := by
    intro q r n hq hr hn h8
    rw [hq, gidx_coe, hr, hn]
    unfold Ideal.fptosi
    rw [Ideal.toIntClamped_coe, if_pos (by positivity), Int.floor_natCast]
    interval_cases n <;> rfl
  unfold mcode
  simp only [EReal.coe_lt_coe_iff, EReal.coe_le_coe_iff]
  split_ifs with c1 c2 c3 c4 c5 c6 c7
  · exact fin _ 7 7 (grid_coe_hi 3 (by linarith) (rhe_near 3 (by push_cast; linarith) (by push_cast; linarith)))
      (by push_cast; norm_num) (by norm_num) (by norm_num)
  · rcases lt_or_ge a 4 with h | h
    · exact fin _ 6 6 (grid_coe_mid 4 (by linarith) h (rhe_even 4 (by decide) (by push_cast; linarith) (by push_cast; linarith)))
        (by push_cast; norm_num) (by norm_num) (by norm_num)
    · exact fin _ 6 6 (grid_coe_hi 2 h (rhe_even 2 (by decide) (by push_cast; linarith) (by push_cast; linarith)))
        (by push_cast; norm_num) (by norm_num) (by norm_num)
  · exact fin _ 5 5 (grid_coe_mid 3 (by linarith) (by linarith) (rhe_near 3 (by push_cast; linarith) (by push_cast; linarith)))
      (by push_cast; norm_num) (by norm_num) (by norm_num)
  · rcases lt_or_ge a 2 with h | h
    · exact fin _ 4 4 (grid_coe_lo 4 h (rhe_even 4 (by decide) (by push_cast; linarith) (by push_cast; linarith)))
        (by push_cast; norm_num) (by norm_num) (by norm_num)
    · exact fin _ 4 4 (grid_coe_mid 2 h (by linarith) (rhe_even 2 (by decide) (by push_cast; linarith) (by push_cast; linarith)))
        (by push_cast; norm_num) (by norm_num) (by norm_num)
  · exact fin _ 3 3 (grid_coe_lo 3 (by linarith) (rhe_near 3 (by push_cast; linarith) (by push_cast; linarith)))
      (by push_cast; norm_num) (by norm_num) (by norm_num)
  · exact fin _ 2 2 (grid_coe_lo 2 (by linarith) (rhe_even 2 (by decide) (by push_cast; linarith) (by push_cast; linarith)))
      (by push_cast; norm_num) (by norm_num) (by norm_num)
  · exact fin _ 1 1 (grid_coe_lo 1 (by linarith) (rhe_near 1 (by push_cast; linarith) (by push_cast; linarith)))
      (by push_cast; norm_num) (by norm_num) (by norm_num)
  · exact fin _ 0 0 (grid_coe_lo 0 (by linarith) (rhe_even 0 (by decide) (by push_cast; linarith) (by push_cast; linarith)))
      (by push_cast; norm_num) (by norm_num) (by norm_num)

/-- The code of a magnitude is below eight. -/
theorem mcode_lt (a : EReal) : ∃ n : Fin 8, mcode a = BitVec.ofNat 32 n.1 := by
  unfold mcode
  split_ifs
  · exact ⟨7, rfl⟩
  · exact ⟨6, rfl⟩
  · exact ⟨5, rfl⟩
  · exact ⟨4, rfl⟩
  · exact ⟨3, rfl⟩
  · exact ⟨2, rfl⟩
  · exact ⟨1, rfl⟩
  · exact ⟨0, rfl⟩

/-- A code is below sixteen. -/
theorem code_lt (v : EReal) : ∃ n : Fin 16, code v = BitVec.ofNat 32 n.1 := by
  obtain ⟨n, hn⟩ := mcode_lt (ab v)
  unfold code
  rw [hn]
  split_ifs
  · exact ⟨⟨n.1 + 8, by omega⟩, by simp [BitVec.ofNat_add]⟩
  · exact ⟨⟨n.1, by omega⟩, rfl⟩

/-- A clipped value is a real between minus six and six. -/
theorem clip_real (v : EReal) : ∃ x : ℝ, clip v = (x : EReal) ∧ |x| ≤ 6 := by
  unfold clip
  induction v using EReal.rec with
  | bot => exact ⟨-6, by rw [max_eq_left bot_le, min_eq_right]; exact EReal.coe_le_coe_iff.mpr (by norm_num), by norm_num⟩
  | top => exact ⟨6, by rw [max_eq_right le_top, min_eq_left le_top], by norm_num⟩
  | coe x =>
    refine ⟨min 6 (max (-6) x), ?_, abs_le.mpr ⟨?_, ?_⟩⟩
    · rw [EReal.coe_strictMono.monotone.map_min, EReal.coe_strictMono.monotone.map_max]
    · exact le_min (by norm_num) (le_max_left _ _)
    · exact min_le_left _ _

/-- The absolute value of a real. -/
theorem ab_coe (x : ℝ) : ab (x : EReal) = ((|x| : ℝ) : EReal) := by
  unfold ab
  rw [← EReal.coe_neg, ← EReal.coe_strictMono.monotone.map_max]; rfl

/-- A selection on true. -/
theorem sel_one {α} (a b : α) : Scalar.select (1#1) a b = a := rfl
/-- A selection on false. -/
theorem sel_zero {α} (a b : α) : Scalar.select (0#1) a b = b := rfl
/-- A selection on a decided proposition. -/
theorem sel_dec {α} (P : Prop) [Decidable P] (a b : α) :
    Scalar.select (BitVec.ofBool (decide P)) a b = if P then a else b := by
  by_cases h : P
  · simp only [h, decide_true, if_true]; rfl
  · simp only [h, decide_false, if_false]; rfl

/-- The code as the reference states it: sign bit above the index of the rounded magnitude. -/
def rcode (v : EReal) : BitVec 32 :=
  IntOp.ori (IntOp.shli ArithUnit.vector (BitVec.setWidth 32 (BitVec.ofBool (decide (v < 0)))) 3#32)
    (Ideal.fptosi 32 (gidx (grid (ab v))))

/-- On clipped values the reference's code and the threshold code are the same. -/
theorem rcode_clip (v : EReal) : rcode (clip v) = code (clip v) := by
  obtain ⟨x, hx, h6⟩ := clip_real v
  rw [hx]
  unfold rcode code
  rw [ab_coe, mcode_eq (abs_nonneg x) h6]
  obtain ⟨n, hn⟩ := mcode_lt ((|x| : ℝ) : EReal)
  rw [hn]
  clear hn
  by_cases h : ((x : ℝ) : EReal) < 0
  · simp only [h, decide_true, if_true]
    revert n; decide
  · simp only [h, decide_false, if_false]
    revert n; decide

/-- Scaling by the reciprocal is the guarded quotient. -/
theorem mul_rcp (g d : EReal) :
    (if 0 < d then Ideal.div g (if 0 < d then d else 1) else 0) = g * rcp d := by
  unfold rcp
  split_ifs with h
  · unfold Ideal.div
    rw [if_neg h.ne', if_neg h.ne', one_mul]
  · rw [mul_zero]

/-- The packed byte by shift and disjunction. -/
def por (v w : EReal) : BitVec 32 := IntOp.ori (code v) (IntOp.shli ArithUnit.vector (code w) 4#32)

/-- Packing by shift and disjunction is packing by sum. -/
theorem pack_or (v w : EReal) : BitVec.setWidth 8 (por v w) = pack (code v) (code w) := by
  obtain ⟨a, ha⟩ := code_lt v
  obtain ⟨b, hb⟩ := code_lt w
  unfold por pack
  rw [ha, hb]
  clear ha hb
  revert a b
  decide

/-- The low half of a packed word is the first code. -/
theorem pack_lo (v w : EReal) : IntOp.andi (por v w) 15#32 = code v := by
  obtain ⟨a, ha⟩ := code_lt v
  obtain ⟨b, hb⟩ := code_lt w
  unfold por
  rw [ha, hb]; clear ha hb; revert a b; decide

/-- The high half of a packed word is the second code. -/
theorem pack_hi (v w : EReal) : IntOp.shrsi ArithUnit.vector (por v w) 4#32 = code w := by
  obtain ⟨a, ha⟩ := code_lt v
  obtain ⟨b, hb⟩ := code_lt w
  unfold por
  rw [ha, hb]; clear ha hb; revert a b; decide

/-- The reference's decoding by bits and the decoding by arithmetic agree on codes. -/
theorem rdec_code (v : EReal) : rdec (code v) = dec (code v) := by
  obtain ⟨n, hn⟩ := code_lt v
  rw [hn]
  clear hn
  have h0 : (0 : EReal) = ((((0:ℤ)):ℝ):EReal) * ((1/2:ℝ):EReal) := by norm_cast <;> norm_num
  have h1 : (((1/2:ℝ):EReal) : EReal) = ((((1:ℤ)):ℝ):EReal) * ((1/2:ℝ):EReal) := by norm_cast <;> norm_num
  have h2 : (1 : EReal) = ((((2:ℤ)):ℝ):EReal) * ((1/2:ℝ):EReal) := by norm_cast <;> norm_num
  have h3 : (((3/2:ℝ):EReal) : EReal) = ((((3:ℤ)):ℝ):EReal) * ((1/2:ℝ):EReal) := by norm_cast <;> norm_num
  have h4 : (((2:ℝ):EReal) : EReal) = ((((4:ℤ)):ℝ):EReal) - ((2:ℝ):EReal) := by norm_cast <;> norm_num
  have h5 : (((3:ℝ):EReal) : EReal) = ((((5:ℤ)):ℝ):EReal) - ((2:ℝ):EReal) := by norm_cast <;> norm_num
  have h6 : (((4:ℝ):EReal) : EReal) = ((2:ℝ):EReal) * ((((6:ℤ)):ℝ):EReal) - ((8:ℝ):EReal) := by norm_cast <;> norm_num
  have h7 : (((6:ℝ):EReal) : EReal) = ((2:ℝ):EReal) * ((((7:ℤ)):ℝ):EReal) - ((8:ℝ):EReal) := by norm_cast <;> norm_num
  fin_cases n
  · exact h0
  · exact h1
  · exact h2
  · exact h3
  · exact h4
  · exact h5
  · exact h6
  · exact h7
  · exact congrArg (fun z : EReal => 0 - z) h0
  · exact congrArg (fun z : EReal => 0 - z) h1
  · exact congrArg (fun z : EReal => 0 - z) h2
  · exact congrArg (fun z : EReal => 0 - z) h3
  · exact congrArg (fun z : EReal => 0 - z) h4
  · exact congrArg (fun z : EReal => 0 - z) h5
  · exact congrArg (fun z : EReal => 0 - z) h6
  · exact congrArg (fun z : EReal => 0 - z) h7

/-! ### Sums and maxima -/

/-- A sum over an even range by parity. -/
theorem sum_parity (f : ℕ → EReal) (n : ℕ) :
    ∑ k ∈ Finset.range (2 * n), f k
      = ∑ j ∈ Finset.range n, f (2 * j) + ∑ j ∈ Finset.range n, f (2 * j + 1) := by
  induction n with
  | zero => simp
  | succ n ih =>
    rw [show 2 * (n + 1) = 2 * n + 1 + 1 by ring, Finset.sum_range_succ, Finset.sum_range_succ, ih,
      Finset.sum_range_succ, Finset.sum_range_succ]
    abel

/-- A fold of maxima is the supremum. -/
theorem fold_eq_iSup {ι : Type} [Fintype ι] (f : ι → EReal) : Finset.univ.fold max ⊥ f = ⨆ i, f i := by
  refine le_antisymm ((Finset.fold_max_le _).mpr ⟨bot_le, fun p _ => le_iSup f p⟩) (iSup_le fun p => ?_)
  exact (Finset.le_fold_max _).mpr (Or.inr ⟨p, Finset.mem_univ _, le_rfl⟩)

/-- Every entry of a block is at most the block's largest magnitude. -/
theorem le_amax (f : Fin 16 → EReal) (i : Fin 16) : ab (f i) ≤ amax f :=
  (Finset.le_fold_max _).mpr (Or.inr ⟨i, Finset.mem_univ _, le_rfl⟩)

/-- The largest magnitude of a block is at most any bound of its entries. -/
theorem amax_le {f : Fin 16 → EReal} {b : EReal} (h : ∀ i, ab (f i) ≤ b) : amax f ≤ b :=
  (Finset.fold_max_le _).mpr ⟨bot_le, fun i _ => h i⟩

/-- The largest magnitude of a block is not negative. -/
theorem amax_nonneg (f : Fin 16 → EReal) : 0 ≤ amax f := (ab_nonneg _).trans (le_amax f 0)

end Cert.Spec
-- ==== Proof.Pay.lean ====
/-
The kernel's payloads, read at an index, as the mathematics of `Spec`.
-/
module
public import proofs.«01_k».proof.Proof.Steps
public import proofs.«01_k».proof.Proof.Spec
public import Idealize.ShloMosaic.Lib.Pointwise
@[expose] public section
set_option maxRecDepth 16384
noncomputable section
open Idealize.ShloMosaic Idealize.ShloMosaic.TcCoe Idealize.SL.Sem
open Cert.Spec
namespace Cert.KernelIdeal.Hand
open Cert.KernelIdeal Cert.KernelIdeal.Gen

/-! ### Scales -/

section scales
variable (st : FVec Ideal S1x1 .f32) (b : Vec Ideal S1x32x256 .bf16)

/-- The row scale, an entry of the first copy. -/
theorem pay20_at (g : Fin 32) (j : Fin 256) :
    k0_pay20 st b (ix2 g j) = scale (st (ix2 0 0)) (b (ix3 0 g j)) := by
  pointwise [k0_pay20]
  rw [c_6, c_448]; rfl

/-- The row scale, an entry of the second copy. -/
theorem pay21_at (g : Fin 32) (j : Fin 256) :
    k0_pay21 st b (ix2 g j) = scale (st (ix2 0 0)) (b (ix3 0 g j)) := by
  pointwise [k0_pay21, k0_pay20]
  rw [c_6, c_448]; rfl

/-- The row scale that is stored in the scratch. -/
theorem pay22_at (g : Fin 32) (j : Fin 256) :
    k0_pay22 (k0_pay20 st b) (ix3 0 g j) = scale (st (ix2 0 0)) (b (ix3 0 g j)) := by
  pointwise [k0_pay22]
  exact pay20_at st b g j

variable (M : Vec Ideal S16x512 .f32) (v : Vec Ideal S1x128x512 .bf16)

/-- The tensor scale from the running maxima: their maximum over 2688. -/
theorem pay51_at : k0_pay51 M (ix2 0 0)
    = Ideal.div (Finset.univ.fold max ⊥ fun x : Fin 16 × Fin 512 => M (ix2 x.1 x.2)) ((2688:ℝ):EReal) := by
  pointwise [k0_pay51]
  rw [c_bot, c_2688]

/-- The reciprocal of a column scale times the tensor scale. -/
theorem pay54_at (R : Fin 128) (j : Fin 512) : k0_pay7 (k0_pay54 M v) (ix2 R j)
    = rcp (scale (k0_pay51 M (ix2 0 0)) (v (ix3 0 R j)) * k0_pay51 M (ix2 0 0)) := by
  pointwise [k0_pay7, k0_pay54, k0_pay53]
  rw [c_6, c_448]; rfl

/-- The column scale. -/
theorem pay55_at (j : Fin 512) (R : Fin 128) : k0_pay55 M v (ix2 j R)
    = scale (k0_pay51 M (ix2 0 0)) (v (ix3 0 R j)) := by
  pointwise [k0_pay55, k0_pay53]
  rw [c_6, c_448]; rfl
end scales

/-! ### Maxima -/

section maxima
variable (w : Vec Ideal S256x512 .bf16) (M : Vec Ideal S16x512 .f32)

/-- The largest magnitude of sixteen rows in one column. -/
theorem pay4_at (g : Fin 16) (j : Fin 512) :
    k0_pay4 w (ix3 0 g j) = amax fun x => w (ix2 ⟨g.1 * 16 + x.1, by omega⟩ j) := by
  pointwise [k0_pay4, k0_pay3, k0_pay2]
  rw [c_bot16]; rfl

/-- The largest magnitude of sixteen columns in one row. -/
theorem pay5_at (G : Fin 32) (j : Fin 256) :
    k0_pay5 w (ix3 0 G j) = amax fun x => w (ix2 j ⟨G.1 * 16 + x.1, by omega⟩) := by
  pointwise [k0_pay5, k0_pay3, k0_pay2]
  rw [c_bot16]; rfl

/-- The running maximum takes in the largest magnitude of sixteen rows in one column. -/
theorem pay6_at (g : Fin 16) (j : Fin 512) :
    k0_pay6 w M (ix2 g j) = max (M (ix2 g j)) (amax fun x => w (ix2 ⟨g.1 * 16 + x.1, by omega⟩ j)) := by
  pointwise [k0_pay6, k0_pay3, k0_pay2]
  rw [c_bot16]; rfl

/-- The running maximum starts at zero. -/
theorem pay1_at (g : Fin 16) (j : Fin 512) : k0_pay1 (F := Ideal) (ix2 g j) = (0 : EReal) := by
  pointwise [k0_pay1]
end maxima

/-! ### Column codes -/

section colcodes
variable (w : Vec Ideal S256x512 .bf16) (r : Vec Ideal S16x512 .f32)

/-- The clipped quotient of row `g`, column `j`. -/
def nv (g : Fin 256) (j : Fin 512) : EReal := clip (w (ix2 g j) * r (ix2 ⟨g.1 / 16, by omega⟩ j))

/-- The clipped quotient along the columns. -/
theorem pay10_at (g : Fin 256) (j : Fin 512) : k0_pay10 w r (ix2 g j) = nv w r g j := by
  pointwise [k0_pay10]
  rw [c_6, c_m6]; rfl
/-- The magnitude of the clipped quotient. -/
theorem pay11_at (g : Fin 256) (j : Fin 512) : k0_pay11 w r (ix2 g j) = ab (nv w r g j) := by
  pointwise [k0_pay11]
  rw [pay10_at]; rfl
/-- Whether the magnitude of a column's quotient is above 5. -/
theorem pay12_at (g : Fin 256) (j : Fin 512) :
    k0_pay12 w r (ix2 g j) = BitVec.ofBool (decide (((5:ℝ):EReal) < ab (nv w r g j))) := by
  pointwise [k0_pay12]
  rw [pay11_at, c_5]
/-- Whether the magnitude of a column's quotient is at least 7/2. -/
theorem pay13_at (g : Fin 256) (j : Fin 512) :
    k0_pay13 w r (ix2 g j) = BitVec.ofBool (decide (((7/2:ℝ):EReal) ≤ ab (nv w r g j))) := by
  pointwise [k0_pay13]
  rw [pay11_at, c_72]
/-- Whether the magnitude of a column's quotient is above 5/2. -/
theorem pay14_at (g : Fin 256) (j : Fin 512) :
    k0_pay14 w r (ix2 g j) = BitVec.ofBool (decide (((5/2:ℝ):EReal) < ab (nv w r g j))) := by
  pointwise [k0_pay14]
  rw [pay11_at, c_52]
/-- Whether the magnitude of a column's quotient is at least 7/4. -/
theorem pay15_at (g : Fin 256) (j : Fin 512) :
    k0_pay15 w r (ix2 g j) = BitVec.ofBool (decide (((7/4:ℝ):EReal) ≤ ab (nv w r g j))) := by
  pointwise [k0_pay15]
  rw [pay11_at, c_74]
/-- Whether the magnitude of a column's quotient is above 5/4. -/
theorem pay16_at (g : Fin 256) (j : Fin 512) :
    k0_pay16 w r (ix2 g j) = BitVec.ofBool (decide (((5/4:ℝ):EReal) < ab (nv w r g j))) := by
  pointwise [k0_pay16]
  rw [pay11_at, c_54]
/-- The lowest three codes, by their thresholds. -/
theorem pay17_at (g : Fin 256) (j : Fin 512) :
    k0_pay17 w r (ix2 g j) = (if ((3/4:ℝ):EReal) ≤ ab (nv w r g j) then 2#32
      else if ((1/4:ℝ):EReal) < ab (nv w r g j) then 1#32 else 0#32) := by
  pointwise [k0_pay17]
  rw [pay11_at, c_34, c_quarter]
/-- The code three. -/
theorem pay18_at (g : Fin 256) (j : Fin 512) : k0_pay18 (ix2 g j) = 3#32 := by
  pointwise [k0_pay18]

/-- A packed byte of column codes: two rows, the even one in the low half. -/
theorem encN_at (j : Fin 512) (p : Fin 128) : encN w r (ix2 j p)
    = pack (code (nv w r ⟨p.1 * 2, by omega⟩ j)) (code (nv w r ⟨p.1 * 2 + 1, by omega⟩ j)) := by
  unfold encN
  pointwise [k0_pay19]
  simp only [pay10_at, pay12_at, pay13_at, pay14_at, pay15_at, pay16_at, pay17_at, pay18_at, sel_dec]
  rfl
end colcodes

/-! ### Row codes -/

section rowcodes

/-- The identity matrix. -/
theorem pay8_at (a b : Fin 256) : k0_pay8 (F := Ideal) (ix2 a b) = if b = a then (1 : EReal) else 0 := by
  pointwise [k0_pay8]
  by_cases h : b = a
  · subst h
    rw [if_pos rfl, show IntOp.cmpi CmpIPredicate.eq (BitVec.ofNat 32 b.1) (BitVec.ofNat 32 b.1) = 1#1 by
      simp [IntOp.cmpi]]
    show ((((1 : ℤ) : ℝ)) : EReal) = 1
    norm_cast
  · have hne : BitVec.ofNat 32 a.1 ≠ BitVec.ofNat 32 b.1 := by
      intro e
      have := congrArg BitVec.toNat e
      simp only [BitVec.toNat_ofNat] at this
      exact h (Fin.ext (by omega))
    rw [if_neg h, show IntOp.cmpi CmpIPredicate.eq (BitVec.ofNat 32 a.1) (BitVec.ofNat 32 b.1) = 0#1 by
      show BitVec.ofBool (BitVec.ofNat 32 a.1 == BitVec.ofNat 32 b.1) = 0#1
      rw [beq_eq_false_iff_ne.mpr hne]; rfl]
    show ((((0 : ℤ) : ℝ)) : EReal) = 0
    norm_cast

variable (st : FVec Ideal S1x1 .f32) (w : Vec Ideal S256x512 .bf16) (b : FVec Ideal S32x256 .f32)

/-- The clipped quotient of row `n`, column `k`. -/
def kv (n : Fin 256) (k : Fin 512) : EReal :=
  clip (w (ix2 n k) * rcp (b (ix2 ⟨k.1 / 16, by omega⟩ n) * st (ix2 0 0)))

/-- Multiplying by the identity matrix changes nothing. -/
theorem sum_id (f : Fin 256 → EReal) (a : Fin 256) :
    (∑ x, k0_pay8 (F := Ideal) (ix2 a x) * f x) = f a := by
  refine (Finset.sum_congr rfl fun x _ => congrArg (fun z => z * f x) (pay8_at a x)).trans ?_
  simp [ite_mul]

/-- The clipped quotient along the rows: the product with the identity transposes the tile. -/
theorem pay23_at (k : Fin 512) (n : Fin 256) : k0_pay23 st k0_pay8 w b (ix2 k n) = kv st w b n k := by
  pointwise [k0_pay23]
  rw [c_6, c_m6]
  unfold kv clip
  congr 2
  refine congrArg₂ (fun a b => a * b) ?_ rfl
  split_ifs with h
  · exact sum_id (fun x => w (ix2 n ⟨x.1, by omega⟩)) ⟨k.1, h⟩
  · refine (sum_id (fun x => w (ix2 n ⟨256 + x.1, by omega⟩)) ⟨k.1 - 256, by omega⟩).trans ?_
    congr 2
    exact Fin.ext (by show 256 + (k.1 - 256) = k.1; omega)
  · exact absurd rfl ‹_›

/-- The magnitude of the clipped quotient along the rows. -/
theorem pay24_at (k : Fin 512) (n : Fin 256) : k0_pay24 st k0_pay8 w b (ix2 k n) = ab (kv st w b n k) := by
  pointwise [k0_pay24]
  rw [pay23_at]; rfl
/-- Whether the magnitude of a row's quotient is above 5. -/
theorem pay25_at (j : Fin 512) (n : Fin 256) :
    k0_pay25 st k0_pay8 w b (ix2 j n) = BitVec.ofBool (decide (((5:ℝ):EReal) < ab (kv st w b n j))) := by
  pointwise [k0_pay25]
  rw [pay24_at, c_5]
/-- Whether the magnitude of a row's quotient is at least 7/2. -/
theorem pay26_at (j : Fin 512) (n : Fin 256) :
    k0_pay26 st k0_pay8 w b (ix2 j n) = BitVec.ofBool (decide (((7/2:ℝ):EReal) ≤ ab (kv st w b n j))) := by
  pointwise [k0_pay26]
  rw [pay24_at, c_72]
/-- Whether the magnitude of a row's quotient is above 5/2. -/
theorem pay27_at (j : Fin 512) (n : Fin 256) :
    k0_pay27 st k0_pay8 w b (ix2 j n) = BitVec.ofBool (decide (((5/2:ℝ):EReal) < ab (kv st w b n j))) := by
  pointwise [k0_pay27]
  rw [pay24_at, c_52]
/-- Whether the magnitude of a row's quotient is at least 7/4. -/
theorem pay28_at (j : Fin 512) (n : Fin 256) :
    k0_pay28 st k0_pay8 w b (ix2 j n) = BitVec.ofBool (decide (((7/4:ℝ):EReal) ≤ ab (kv st w b n j))) := by
  pointwise [k0_pay28]
  rw [pay24_at, c_74]
/-- The constant five quarters. -/
theorem pay29_at (k : Fin 512) (n : Fin 256) : k0_pay29 (F := Ideal) (ix2 k n) = ((5/4:ℝ):EReal) := by
  pointwise [k0_pay29]
  rw [c_54]

/-- The code of a row's entry. -/
theorem pay30_at (k : Fin 512) (n : Fin 256) :
    k0_pay30 (k0_pay23 st k0_pay8 w b) (k0_pay24 st k0_pay8 w b) (k0_pay25 st k0_pay8 w b) (k0_pay26 st k0_pay8 w b) (k0_pay27 st k0_pay8 w b) (k0_pay28 st k0_pay8 w b) k0_pay29 (ix2 k n) = code (kv st w b n k) := by
  pointwise [k0_pay30]
  simp only [pay23_at, pay24_at, pay25_at, pay26_at, pay27_at, pay28_at, pay29_at, sel_dec, c_34, c_quarter]
  rfl

/-- A packed byte of row codes: two columns, the even one in the low half. -/
theorem encK_at (n q : Fin 256) : encK st w b (ix2 n q)
    = pack (code (kv st w b n ⟨q.1 * 2, by omega⟩)) (code (kv st w b n ⟨q.1 * 2 + 1, by omega⟩)) := by
  unfold encK
  pointwise [k0_pay31]
  simp only [pay30_at]
  rfl

/-- The code without its sign bit. -/
theorem pay32_at (k : Fin 512) (n : Fin 256) :
    k0_pay32 (k0_pay23 st k0_pay8 w b) (k0_pay24 st k0_pay8 w b) (k0_pay25 st k0_pay8 w b) (k0_pay26 st k0_pay8 w b) (k0_pay27 st k0_pay8 w b) (k0_pay28 st k0_pay8 w b) k0_pay29 (ix2 k n)
      = Scalar.select (IntOp.cmpi .sge (code (kv st w b n k)) 8#32)
          (IntOp.subi (code (kv st w b n k)) 8#32) (code (kv st w b n k)) := by
  pointwise [k0_pay32]
  rw [pay30_at]

/-- One trip's product: the accumulator plus the activations times the decoded codes and their scales. -/
theorem accK_at (s : FVec Ideal S32x256 .fp8e4m3) (a : Vec Ideal S1x128x256 .f32) (x : Vec Ideal S1x128x512 .bf16)
    (i : Fin 128) (n : Fin 256) : accK st w s b a x (ix3 0 i n)
      = a (ix3 0 i n) + ∑ k : Fin 512, x (ix3 0 i k) * (dec (code (kv st w b n k)) * s (ix2 ⟨k.1 / 16, by omega⟩ n)) := by
  unfold accK
  pointwise [k0_pay9]
  refine congrArg (fun z => a (ix3 0 i n) + z) (Finset.sum_congr rfl fun k _ => ?_)
  have h33 : k0_pay33 (k0_pay23 st k0_pay8 w b) (k0_pay24 st k0_pay8 w b) (k0_pay25 st k0_pay8 w b) (k0_pay26 st k0_pay8 w b) (k0_pay27 st k0_pay8 w b) (k0_pay28 st k0_pay8 w b) k0_pay29 (ix2 k n)
      = (((Scalar.select (IntOp.cmpi .sge (code (kv st w b n k)) 8#32)
          (IntOp.subi (code (kv st w b n k)) 8#32) (code (kv st w b n k))).toInt : ℝ) : EReal) := by
    pointwise [k0_pay33]
    rw [pay32_at]; rfl
  rw [h33, pay32_at, pay30_at, c_half, c_2, c_8]
  rfl
end rowcodes

/-! ### The last point of a row -/

section last
variable (st : FVec Ideal S1x1 .f32) (a : Vec Ideal S1x128x256 .f32) (s : Vec Ideal S1x512x256 .fp8e4m3)
/-- An entry of the product, times the tensor scale. -/
theorem pay34_at (i : Fin 128) (n : Fin 256) : k0_pay34 st a (ix2 i n) = a (ix3 0 i n) * st (ix2 0 0) := by
  pointwise [k0_pay34]
/-- An entry of the product, times the tensor scale. -/
theorem pay36_at (i : Fin 128) (n : Fin 256) : k0_pay36 st a (ix2 i n) = a (ix3 0 i n) * st (ix2 0 0) := by
  pointwise [k0_pay36]
/-- An entry of the product, times the tensor scale. -/
theorem pay38_at (i : Fin 128) (n : Fin 256) : k0_pay38 st a (ix2 i n) = a (ix3 0 i n) * st (ix2 0 0) := by
  pointwise [k0_pay38]
/-- An entry of the product, times the tensor scale. -/
theorem pay40_at (i : Fin 128) (n : Fin 256) : k0_pay40 st a (ix2 i n) = a (ix3 0 i n) * st (ix2 0 0) := by
  pointwise [k0_pay40]
/-- An entry of the product, times the tensor scale. -/
theorem pay42_at (i : Fin 128) (n : Fin 256) : k0_pay42 st a (ix2 i n) = a (ix3 0 i n) * st (ix2 0 0) := by
  pointwise [k0_pay42]
/-- An entry of the product, times the tensor scale. -/
theorem pay47_at (i : Fin 128) (n : Fin 256) : k0_pay47 st a (ix2 i n) = a (ix3 0 i n) * st (ix2 0 0) := by
  pointwise [k0_pay47]
/-- An entry of the product, times the tensor scale. -/
theorem pay49_at (i : Fin 128) (n : Fin 256) : k0_pay49 st a (ix2 i n) = a (ix3 0 i n) * st (ix2 0 0) := by
  pointwise [k0_pay49]
/-- An entry of the product, times the tensor scale. -/
theorem pay45_at (i : Fin 128) (n : Fin 256) : k0_pay45 st (k0_pay44 a) (ix2 i n) = a (ix3 0 i n) * st (ix2 0 0) := by
  pointwise [k0_pay45, k0_pay44]
/-- An entry of the row scales, transposed from the scratch. -/
theorem pay35_at (n : Fin 256) (g : Fin 448) : k0_pay35 s (ix2 n g) = s (ix3 0 ⟨g.1, by omega⟩ n) := by
  pointwise [k0_pay35]
/-- An entry of the row scales, transposed from the scratch. -/
theorem pay37_at (n : Fin 256) (g : Fin 448) : k0_pay37 s (ix2 n g) = s (ix3 0 ⟨g.1, by omega⟩ n) := by
  pointwise [k0_pay37]
/-- An entry of the row scales, transposed from the scratch. -/
theorem pay39_at (n : Fin 256) (g : Fin 448) : k0_pay39 s (ix2 n g) = s (ix3 0 ⟨g.1, by omega⟩ n) := by
  pointwise [k0_pay39]
/-- An entry of the row scales, transposed from the scratch. -/
theorem pay41_at (n : Fin 256) (g : Fin 448) : k0_pay41 s (ix2 n g) = s (ix3 0 ⟨g.1, by omega⟩ n) := by
  pointwise [k0_pay41]
/-- An entry of the row scales, transposed from the scratch. -/
theorem pay43_at (n : Fin 256) (g : Fin 448) : k0_pay43 s (ix2 n g) = s (ix3 0 ⟨g.1, by omega⟩ n) := by
  pointwise [k0_pay43]
/-- An entry of the row scales, transposed from the scratch. -/
theorem pay46_at (n : Fin 256) (g : Fin 448) : k0_pay46 s (ix2 n g) = s (ix3 0 ⟨g.1, by omega⟩ n) := by
  pointwise [k0_pay46]
/-- An entry of the row scales, transposed from the scratch. -/
theorem pay48_at (n : Fin 256) (g : Fin 448) : k0_pay48 s (ix2 n g) = s (ix3 0 ⟨g.1, by omega⟩ n) := by
  pointwise [k0_pay48]
/-- An entry of the row scales, transposed from the scratch. -/
theorem pay50_at (n : Fin 256) (g : Fin 448) : k0_pay50 s (ix2 n g) = s (ix3 0 ⟨g.1, by omega⟩ n) := by
  pointwise [k0_pay50]
/-- The accumulator starts at zero. -/
theorem pay52_at (c : Fin 8) (i : Fin 128) (n : Fin 256) : k0_pay52 (F := Ideal) (ix3 c i n) = (0 : EReal) := by
  pointwise [k0_pay52]
end last

end Cert.KernelIdeal.Hand
-- ==== Proof.Win.lean ====
/-
Stores and loads of windows at an index, and the offsets of the kernel's windows at a grid point.
-/
module
public import proofs.«01_k».proof.Proof.Pay
@[expose] public section
set_option maxRecDepth 16384
noncomputable section
open Idealize.ShloMosaic Idealize.ShloMosaic.TcCoe
open Cert.Spec
namespace Cert.KernelIdeal.Hand
open Cert.KernelIdeal Cert.KernelIdeal.Gen
open VecWindow (put window)

section general
variable {α : Type} {n0 n1 n2 s0 s1 s2 : ℕ}

/-- A store of rank 3 read inside its window. -/
theorem put3_in (x : (⟨3, ![n0, n1, n2]⟩ : Shape).Idx → α) (o : Fin 3 → ℕ) (w : (⟨3, ![s0, s1, s2]⟩ : Shape).Idx → α)
    (a : Fin n0) (b : Fin n1) (c : Fin n2) (a' : Fin s0) (b' : Fin s1) (c' : Fin s2)
    (ha : a.1 = o 0 + a'.1) (hb : b.1 = o 1 + b'.1) (hc : c.1 = o 2 + c'.1) :
    put (s := ⟨3, ![n0, n1, n2]⟩) x o ![s0, s1, s2] w (ix3 a b c) = w (ix3 a' b' c') := by
  have h : ∀ d : Fin 3, o d ≤ ((ix3 a b c : (⟨3, ![n0, n1, n2]⟩ : Shape).Idx) d).val
      ∧ ((ix3 a b c : (⟨3, ![n0, n1, n2]⟩ : Shape).Idx) d).val < o d + (![s0, s1, s2] : Fin 3 → ℕ) d := fun d => by
    match d with
    | ⟨0, _⟩ => exact ⟨by show o 0 ≤ a.1; omega, by show a.1 < o 0 + s0; omega⟩
    | ⟨1, _⟩ => exact ⟨by show o 1 ≤ b.1; omega, by show b.1 < o 1 + s1; omega⟩
    | ⟨2, _⟩ => exact ⟨by show o 2 ≤ c.1; omega, by show c.1 < o 2 + s2; omega⟩
  refine (dif_pos h).trans (congrArg w (funext fun d => ?_))
  match d with
  | ⟨0, _⟩ => exact Fin.ext (by show a.1 - o 0 = a'.1; omega)
  | ⟨1, _⟩ => exact Fin.ext (by show b.1 - o 1 = b'.1; omega)
  | ⟨2, _⟩ => exact Fin.ext (by show c.1 - o 2 = c'.1; omega)

/-- A store of rank 3 read outside its window. -/
theorem put3_out (x : (⟨3, ![n0, n1, n2]⟩ : Shape).Idx → α) (o : Fin 3 → ℕ) (w : (⟨3, ![s0, s1, s2]⟩ : Shape).Idx → α)
    (a : Fin n0) (b : Fin n1) (c : Fin n2)
    (h : ¬ ((o 0 ≤ a.1 ∧ a.1 < o 0 + s0) ∧ (o 1 ≤ b.1 ∧ b.1 < o 1 + s1) ∧ (o 2 ≤ c.1 ∧ c.1 < o 2 + s2))) :
    put (s := ⟨3, ![n0, n1, n2]⟩) x o ![s0, s1, s2] w (ix3 a b c) = x (ix3 a b c) :=
  dif_neg fun hh => h ⟨hh 0, hh 1, hh 2⟩

/-- A store of rank 2 read inside its window. -/
theorem put2_in (x : (⟨2, ![n0, n1]⟩ : Shape).Idx → α) (o : Fin 2 → ℕ) (w : (⟨2, ![s0, s1]⟩ : Shape).Idx → α)
    (a : Fin n0) (b : Fin n1) (a' : Fin s0) (b' : Fin s1) (ha : a.1 = o 0 + a'.1) (hb : b.1 = o 1 + b'.1) :
    put (s := ⟨2, ![n0, n1]⟩) x o ![s0, s1] w (ix2 a b) = w (ix2 a' b') := by
  have h : ∀ d : Fin 2, o d ≤ ((ix2 a b : (⟨2, ![n0, n1]⟩ : Shape).Idx) d).val
      ∧ ((ix2 a b : (⟨2, ![n0, n1]⟩ : Shape).Idx) d).val < o d + (![s0, s1] : Fin 2 → ℕ) d := fun d => by
    match d with
    | ⟨0, _⟩ => exact ⟨by show o 0 ≤ a.1; omega, by show a.1 < o 0 + s0; omega⟩
    | ⟨1, _⟩ => exact ⟨by show o 1 ≤ b.1; omega, by show b.1 < o 1 + s1; omega⟩
  refine (dif_pos h).trans (congrArg w (funext fun d => ?_))
  match d with
  | ⟨0, _⟩ => exact Fin.ext (by show a.1 - o 0 = a'.1; omega)
  | ⟨1, _⟩ => exact Fin.ext (by show b.1 - o 1 = b'.1; omega)

/-- A store of rank 2 read outside its window. -/
theorem put2_out (x : (⟨2, ![n0, n1]⟩ : Shape).Idx → α) (o : Fin 2 → ℕ) (w : (⟨2, ![s0, s1]⟩ : Shape).Idx → α)
    (a : Fin n0) (b : Fin n1) (h : ¬ ((o 0 ≤ a.1 ∧ a.1 < o 0 + s0) ∧ (o 1 ≤ b.1 ∧ b.1 < o 1 + s1))) :
    put (s := ⟨2, ![n0, n1]⟩) x o ![s0, s1] w (ix2 a b) = x (ix2 a b) :=
  dif_neg fun hh => h ⟨hh 0, hh 1⟩

/-- A load of rank 3. -/
theorem window3 (x : (⟨3, ![n0, n1, n2]⟩ : Shape).Idx → α) (o : Fin 3 → ℕ) (inb) (a' : Fin s0) (b' : Fin s1) (c' : Fin s2)
    (a : Fin n0) (b : Fin n1) (c : Fin n2) (ha : a.1 = o 0 + a'.1) (hb : b.1 = o 1 + b'.1) (hc : c.1 = o 2 + c'.1) :
    window (s := ⟨3, ![n0, n1, n2]⟩) x o ![s0, s1, s2] inb (ix3 a' b' c') = x (ix3 a b c) := by
  refine congrArg x (funext fun d => ?_)
  match d with
  | ⟨0, _⟩ => exact Fin.ext (by show o 0 + 1 * a'.1 = a.1; omega)
  | ⟨1, _⟩ => exact Fin.ext (by show o 1 + 1 * b'.1 = b.1; omega)
  | ⟨2, _⟩ => exact Fin.ext (by show o 2 + 1 * c'.1 = c.1; omega)

/-- A load of rank 2. -/
theorem window2 (x : (⟨2, ![n0, n1]⟩ : Shape).Idx → α) (o : Fin 2 → ℕ) (inb) (a' : Fin s0) (b' : Fin s1)
    (a : Fin n0) (b : Fin n1) (ha : a.1 = o 0 + a'.1) (hb : b.1 = o 1 + b'.1) :
    window (s := ⟨2, ![n0, n1]⟩) x o ![s0, s1] inb (ix2 a' b') = x (ix2 a b) := by
  refine congrArg x (funext fun d => ?_)
  match d with
  | ⟨0, _⟩ => exact Fin.ext (by show o 0 + 1 * a'.1 = a.1; omega)
  | ⟨1, _⟩ => exact Fin.ext (by show o 1 + 1 * b'.1 = b.1; omega)

end general

/-- The loop of phase 0 has eight trips. -/
theorem trips1 : k0_t1_loop.trips = 8 := by decide +kernel
/-- The loop of phase 1 has eight trips. -/
theorem trips2 : k0_t2_loop.trips = 8 := by decide +kernel

/-- Where the weights that a trip of phase 0 reads lie. -/
theorem off1_eq : ∀ k, k0_off1 k = ![256 * k.val, 0] := by decide +kernel
/-- Where the column maxima that a trip stores lie. -/
theorem off2_eq : ∀ (i : grid0.Coords) (k), k0_off2 i k = ![(i 2).val, 128 * (i 1).val + 16 * k.val, 0] := by decide +kernel
/-- Where the row maxima that a trip stores lie. -/
theorem off3_eq : ∀ (i : grid0.Coords) (k), k0_off3 i k = ![8 * (i 1).val + k.val, 32 * (i 2).val, 0] := by decide +kernel
/-- Where the column maxima that a point of phase 1 reads lie. -/
theorem off4_eq : ∀ (i : grid0.Coords), k0_off4 i = ![(i 2).val, 128 * (i 1).val, 0] := by decide +kernel
/-- Where the weights that a trip of phase 1 reads lie. -/
theorem off5_eq : ∀ k, k0_off5 k = ![256 * k.val, 0] := by decide +kernel
/-- Where the reciprocals that a trip reads lie. -/
theorem off6_eq : ∀ k, k0_off6 k = ![16 * k.val, 0] := by decide +kernel
/-- Where the column codes that a trip stores lie. -/
theorem off7_eq : ∀ k, k0_off7 k = ![0, 128 * k.val] := by decide +kernel
/-- Where the row maxima that a trip of phase 1 reads lie. -/
theorem off8_eq : ∀ (i : grid0.Coords) (k), k0_off8 i k = ![8 * (i 1).val + k.val, 32 * (i 2).val, 0] := by decide +kernel
/-- Where the row scales that a trip stores lie. -/
theorem off9_eq : ∀ (i : grid0.Coords) (k), k0_off9 i k = ![k.val, 32 * (i 2).val, 0] := by decide +kernel
/-- Where the row codes that a trip stores lie. -/
theorem off10_eq : ∀ k, k0_off10 k = ![256 * k.val, 0] := by decide +kernel
/-- Where the accumulator of a trip lies. -/
theorem off11_eq : ∀ k, k0_off11 k = ![k.val, 0, 0] := by decide +kernel
/-- Where the activations that a point reads lie. -/
theorem off12_eq : ∀ (i : grid0.Coords), k0_off12 i = ![(i 2).val, 0, 0] := by decide +kernel

/-- Where a grid point lies: its phase, its block row and its block column. -/
theorem coords_eq : ∀ t : Fin grid0.N, (grid0.coords t 0).val = t.val / 126 ∧ (grid0.coords t 1).val = t.val % 126 / 14
    ∧ (grid0.coords t 2).val = t.val % 14 := by decide +kernel

/-- The first branch is that of phase 0. -/
theorem cond1_iff : ∀ i : grid0.Coords, k0_cond1 i = 1#1 ↔ (i 0).val = 0 := by decide +kernel
/-- The third branch is that of phase 1. -/
theorem cond3_iff : ∀ i : grid0.Coords, k0_cond3 i = 1#1 ↔ (i 0).val = 1 := by decide +kernel
/-- The fifth branch is that of the last block column. -/
theorem cond5_iff : ∀ i : grid0.Coords, k0_cond5 i = 1#1 ↔ (i 2).val = 13 := by decide +kernel
/-- The first point of a phase, by its coordinates. -/
theorem first_iff : ∀ i : grid0.Coords, first i ↔ (i 1).val = 0 ∧ (i 2).val = 0 := by decide +kernel
/-- The first point of a block row, by its coordinates. -/
theorem rowFirst_iff : ∀ i : grid0.Coords, rowFirst i ↔ (i 2).val = 0 := by decide +kernel

end Cert.KernelIdeal.Hand
-- ==== Proof.Trips.lean ====
/- The two counted loops of the body, by their invariants: the buffers a loop writes hold what the functions of
   Steps.lean say. For any values `F`. -/
module

public import proofs.«01_k».proof.Proof.Steps

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open VecWindow (put window)

set_option warn.classDefReducibility false in
set_option maxHeartbeats 4000000 in
/-- The loop of phase 0. -/
@[sl_loop] def loop0 (𝒱 : Variants) (c : Dev nD) (bd : Option 𝒱.V) (E : Set ℕ) (i : grid0.Coords) (arg3 : Memref sig .tc .vmem S14x128x512 .bf16) (harg3 : arg3.IsWhole) (arg4 : Memref sig .tc .vmem S2048x512 .bf16) (harg4 : arg4.IsWhole) (arg5 : Memref sig .tc .vmem S128x2048 .bf16) (harg5 : arg5.IsWhole) (arg6 : Memref sig .tc .vmem S2048x256 .i8) (harg6 : arg6.IsWhole) (arg7 : Memref sig .tc .vmem S2048x448 .fp8e4m3) (harg7 : arg7.IsWhole) (arg8 : Memref sig .tc .vmem S512x1024 .i8) (harg8 : arg8.IsWhole) (arg9 : Memref sig .tc .vmem S512x128 .fp8e4m3) (harg9 : arg9.IsWhole) (arg10 : Memref sig .tc .vmem S1x1 .f32) (harg10 : arg10.IsWhole) (arg11 : Memref sig .tc .vmem S14x1152x512 .bf16) (harg11 : arg11.IsWhole) (arg12 : Memref sig .tc .vmem S72x448x256 .bf16) (harg12 : arg12.IsWhole) (arg13 : Memref sig .tc .vmem S8x512x256 .fp8e4m3) (harg13 : arg13.IsWhole) (arg14 : Memref sig .tc .vmem S128x512 .f32) (harg14 : arg14.IsWhole) (arg15 : Memref sig .tc .vmem S8x128x256 .f32) (harg15 : arg15.IsWhole) (arg16 : Memref sig .tc .vmem S16x512 .f32) (harg16 : arg16.IsWhole) (k0_h1 : k0_cond1 i = 1#1)
    (X4 : BufTy.Contents (Elt F) arg4.view.ty) (G11 : BufTy.Contents (Elt F) arg11.view.ty) (G12 : BufTy.Contents (Elt F) arg12.view.ty) (G16 : BufTy.Contents (Elt F) arg16.view.ty) :
    Idealize.ShloMosaic.LoopInv (M := 𝕄) Idealize.ShloMosaic.frame (wpE (defs₀ (F := F)) 𝒱 (c : Thread nD τ) bd) E
    k0_t1_loop.lb k0_t1_loop.ub k0_t1_loop.st (k0_t1_ok i k0_h1) () (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 k0_h1) where
  inv k _u := iprop((arg4.view.loc (c : Thread nD τ) ↦[arg4.view.set]{fullShare} X4) ∗ (∃ f, (arg11.view.loc (c : Thread nD τ) ↦[arg11.view.set]{fullShare} f) ∗ ⌜arg11.view.read (Elt F) f = colMax i k0_h1 (arg4.view.read (Elt F) X4) (arg11.view.read (Elt F) G11) k⌝) ∗ (∃ f, (arg12.view.loc (c : Thread nD τ) ↦[arg12.view.set]{fullShare} f) ∗ ⌜arg12.view.read (Elt F) f = rowMax i k0_h1 (arg4.view.read (Elt F) X4) (arg12.view.read (Elt F) G12) k⌝) ∗ (∃ f, (arg16.view.loc (c : Thread nD τ) ↦[arg16.view.set]{fullShare} f) ∗ ⌜arg16.view.read (Elt F) f = allMax i k0_h1 (arg4.view.read (Elt F) X4) (arg16.view.read (Elt F) G16) k⌝))
  step k acc := by
    have hk : k.val < 8 := Nat.lt_of_lt_of_le k.isLt k0_t1_abs.2.1
    unfold k0_t1_body
    iintro ⟨H4, ⟨%f11, H11, %h11⟩, ⟨%f12, H12, %h12⟩, ⟨%f16, H16, %h16⟩⟩
    rw [colMax_succ, rowMax_succ, allMax_succ, ← h11, ← h12, ← h16]
    sl_exec
    sl_step
    isplitl [H4]; · iexact H4
    isplitl [H11]
    · iexists _; isplitl [H11]; · iexact H11
      ipureintro
      rw [View.read_writes_cons_put _ _ _ _ _ rfl]; rfl
    isplitl [H12]
    · iexists _; isplitl [H12]; · iexact H12
      ipureintro
      rw [View.read_writes_cons_put _ _ _ _ _ rfl]; rfl
    iexists _; isplitl [H16]; · iexact H16
    ipureintro
    rw [View.read_writes_full, View.readAt_full]; rfl

set_option warn.classDefReducibility false in
set_option maxHeartbeats 4000000 in
/-- The loop of phase 1. -/
@[sl_loop] def loop1 (𝒱 : Variants) (c : Dev nD) (bd : Option 𝒱.V) (E : Set ℕ) (i : grid0.Coords) (arg3 : Memref sig .tc .vmem S14x128x512 .bf16) (harg3 : arg3.IsWhole) (arg4 : Memref sig .tc .vmem S2048x512 .bf16) (harg4 : arg4.IsWhole) (arg5 : Memref sig .tc .vmem S128x2048 .bf16) (harg5 : arg5.IsWhole) (arg6 : Memref sig .tc .vmem S2048x256 .i8) (harg6 : arg6.IsWhole) (arg7 : Memref sig .tc .vmem S2048x448 .fp8e4m3) (harg7 : arg7.IsWhole) (arg8 : Memref sig .tc .vmem S512x1024 .i8) (harg8 : arg8.IsWhole) (arg9 : Memref sig .tc .vmem S512x128 .fp8e4m3) (harg9 : arg9.IsWhole) (arg10 : Memref sig .tc .vmem S1x1 .f32) (harg10 : arg10.IsWhole) (arg11 : Memref sig .tc .vmem S14x1152x512 .bf16) (harg11 : arg11.IsWhole) (arg12 : Memref sig .tc .vmem S72x448x256 .bf16) (harg12 : arg12.IsWhole) (arg13 : Memref sig .tc .vmem S8x512x256 .fp8e4m3) (harg13 : arg13.IsWhole) (arg14 : Memref sig .tc .vmem S128x512 .f32) (harg14 : arg14.IsWhole) (arg15 : Memref sig .tc .vmem S8x128x256 .f32) (harg15 : arg15.IsWhole) (arg16 : Memref sig .tc .vmem S16x512 .f32) (harg16 : arg16.IsWhole) (k0_h3 : k0_cond3 i = 1#1) (st : FVec F S1x1 .f32)
    (X3 : BufTy.Contents (Elt F) arg3.view.ty) (X4 : BufTy.Contents (Elt F) arg4.view.ty) (X12 : BufTy.Contents (Elt F) arg12.view.ty) (X14 : BufTy.Contents (Elt F) arg14.view.ty) (G8 : BufTy.Contents (Elt F) arg8.view.ty) (G13 : BufTy.Contents (Elt F) arg13.view.ty) (G6 : BufTy.Contents (Elt F) arg6.view.ty) (G15 : BufTy.Contents (Elt F) arg15.view.ty) :
    Idealize.ShloMosaic.LoopInv (M := 𝕄) Idealize.ShloMosaic.frame (wpE (defs₀ (F := F)) 𝒱 (c : Thread nD τ) bd) E
    k0_t2_loop.lb k0_t2_loop.ub k0_t2_loop.st (k0_t2_ok i k0_h3) () (k0_t2_body (F := F) i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (BitVec.ofNat 32 (i 2).val) k0_h3 st) where
  inv k _u := iprop((arg3.view.loc (c : Thread nD τ) ↦[arg3.view.set]{fullShare} X3) ∗ (arg4.view.loc (c : Thread nD τ) ↦[arg4.view.set]{fullShare} X4) ∗ (arg12.view.loc (c : Thread nD τ) ↦[arg12.view.set]{fullShare} X12) ∗ (arg14.view.loc (c : Thread nD τ) ↦[arg14.view.set]{fullShare} X14) ∗ (∃ f, (arg8.view.loc (c : Thread nD τ) ↦[arg8.view.set]{fullShare} f) ∗ ⌜arg8.view.read (Elt F) f = cnAt i k0_h3 (arg4.view.read (Elt F) X4) (arg14.view.read (Elt F) X14) (arg8.view.read (Elt F) G8) k⌝) ∗ (∃ f, (arg13.view.loc (c : Thread nD τ) ↦[arg13.view.set]{fullShare} f) ∗ ⌜arg13.view.read (Elt F) f = skAt i k0_h3 st (arg12.view.read (Elt F) X12) (arg13.view.read (Elt F) G13) k⌝) ∗ (∃ f, (arg6.view.loc (c : Thread nD τ) ↦[arg6.view.set]{fullShare} f) ∗ ⌜arg6.view.read (Elt F) f = ckAt i k0_h3 st (arg4.view.read (Elt F) X4) (arg12.view.read (Elt F) X12) (arg6.view.read (Elt F) G6) k⌝) ∗ (∃ f, (arg15.view.loc (c : Thread nD τ) ↦[arg15.view.set]{fullShare} f) ∗ ⌜arg15.view.read (Elt F) f = accAt i k0_h3 st (arg3.view.read (Elt F) X3) (arg4.view.read (Elt F) X4) (arg12.view.read (Elt F) X12) (arg15.view.read (Elt F) G15) k⌝))
  step k acc := by
    have hk : k.val < 8 := Nat.lt_of_lt_of_le k.isLt k0_t2_abs.2.1
    unfold k0_t2_body
    simp only [k0_part1_eq_skeleton, k0_part2_eq_skeleton, k0_part3_eq_skeleton, k0_part4_eq_skeleton]
    iintro ⟨H3, H4, H12, H14, ⟨%f8, H8, %h8⟩, ⟨%f13, H13, %h13⟩, ⟨%f6, H6, %h6⟩, ⟨%f15, H15, %h15⟩⟩
    rw [cnAt_succ, skAt_succ, ckAt_succ, accAt_succ, ← h8, ← h13, ← h6, ← h15]
    sl_exec
    sl_step
    isplitl [H3]; · iexact H3
    isplitl [H4]; · iexact H4
    isplitl [H12]; · iexact H12
    isplitl [H14]; · iexact H14
    isplitl [H8]
    · iexists _; isplitl [H8]; · iexact H8
      ipureintro
      rw [View.read_writes_cons_put _ _ _ _ _ rfl]; rfl
    isplitl [H13]
    · iexists _; isplitl [H13]; · iexact H13
      ipureintro
      rw [View.read_writes_cons_put _ _ _ _ _ rfl]; rfl
    isplitl [H6]
    · iexists _; isplitl [H6]; · iexact H6
      ipureintro
      rw [View.read_writes_cons_put _ _ _ _ _ rfl]; rfl
    iexists _; isplitl [H15]; · iexact H15
    ipureintro
    rw [View.read_writes_cons_put _ _ _ _ _ rfl]; rfl

end Cert.KernelIdeal.Hand

end
-- ==== Proof.Body.lean ====
/- The body's triples, phase by phase, with what every buffer holds afterwards. For any values `F`. -/
module

public import proofs.«01_k».proof.Proof.Trips

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open VecWindow (put window)

/-- The maxima the first trip of a point starts from: the initial ones at the first point. -/
def maxInit (i : grid0.Coords) (M : Vec F S16x512 .f32) : Vec F S16x512 .f32 := if first i then k0_pay1 else M
/-- The accumulators the first trip of a point starts from: zero at the first point of a row. -/
def accInit (i : grid0.Coords) (a : Vec F S8x128x256 .f32) : Vec F S8x128x256 .f32 := if rowFirst i then k0_pay52 else a
/-- The maxima down the columns of the point's block. -/
def colBlk (i : grid0.Coords) (h3 : k0_cond3 i = 1#1) (A : Vec F S14x1152x512 .bf16) : Vec F S1x128x512 .bf16 :=
  window A (k0_off4 i) S1x128x512.size (k0_off4_inb i h3)
/-- The products' window from the finished accumulators. -/
def yAll (st : FVec F S1x1 .f32) (a : Vec F S8x128x256 .f32) (Y : Vec F S128x2048 .bf16) : Vec F S128x2048 .bf16 :=
  put (put (put (put (put (put (put (put (Y) ![0, 0] S128x256.size (k0_pay34 st (window a ![0, 0, 0] S1x128x256.size inb_S8x128x256_S1x128x256_0_0_0))) ![0, 256] S128x256.size (k0_pay36 st (window a ![1, 0, 0] S1x128x256.size inb_S8x128x256_S1x128x256_1_0_0))) ![0, 512] S128x256.size (k0_pay38 st (window a ![2, 0, 0] S1x128x256.size inb_S8x128x256_S1x128x256_2_0_0))) ![0, 768] S128x256.size (k0_pay40 st (window a ![3, 0, 0] S1x128x256.size inb_S8x128x256_S1x128x256_3_0_0))) ![0, 1024] S128x256.size (k0_pay42 st (window a ![4, 0, 0] S1x128x256.size inb_S8x128x256_S1x128x256_4_0_0))) ![0, 1280] S128x256.size (k0_pay45 st <| k0_pay44 (window a ![5, 0, 0] S1x128x256.size inb_S8x128x256_S1x128x256_5_0_0))) ![0, 1536] S128x256.size (k0_pay47 st (window a ![6, 0, 0] S1x128x256.size inb_S8x128x256_S1x128x256_6_0_0))) ![0, 1792] S128x256.size (k0_pay49 st (window a ![7, 0, 0] S1x128x256.size inb_S8x128x256_S1x128x256_7_0_0))
/-- The row scales' window from the finished row scales. -/
def skAll (s : Vec F S8x512x256 .fp8e4m3) (K : Vec F S2048x448 .fp8e4m3) : Vec F S2048x448 .fp8e4m3 :=
  put (put (put (put (put (put (put (put (K) ![0, 0] S256x448.size (k0_pay35 (window s ![0, 0, 0] S1x512x256.size inb_S8x512x256_S1x512x256_0_0_0))) ![256, 0] S256x448.size (k0_pay37 (window s ![1, 0, 0] S1x512x256.size inb_S8x512x256_S1x512x256_1_0_0))) ![512, 0] S256x448.size (k0_pay39 (window s ![2, 0, 0] S1x512x256.size inb_S8x512x256_S1x512x256_2_0_0))) ![768, 0] S256x448.size (k0_pay41 (window s ![3, 0, 0] S1x512x256.size inb_S8x512x256_S1x512x256_3_0_0))) ![1024, 0] S256x448.size (k0_pay43 (window s ![4, 0, 0] S1x512x256.size inb_S8x512x256_S1x512x256_4_0_0))) ![1280, 0] S256x448.size (k0_pay46 (window s ![5, 0, 0] S1x512x256.size inb_S8x512x256_S1x512x256_5_0_0))) ![1536, 0] S256x448.size (k0_pay48 (window s ![6, 0, 0] S1x512x256.size inb_S8x512x256_S1x512x256_6_0_0))) ![1792, 0] S256x448.size (k0_pay50 (window s ![7, 0, 0] S1x512x256.size inb_S8x512x256_S1x512x256_7_0_0))
/-- The products' window after a point: written at the last point of a row. -/
def yOut (i : grid0.Coords) (st : FVec F S1x1 .f32) (a : Vec F S8x128x256 .f32) (Y : Vec F S128x2048 .bf16) : Vec F S128x2048 .bf16 :=
  if k0_cond5 i = 1#1 then yAll st a Y else Y
/-- The row scales' window after a point: written at the last point of a row. -/
def skOut (i : grid0.Coords) (s : Vec F S8x512x256 .fp8e4m3) (K : Vec F S2048x448 .fp8e4m3) : Vec F S2048x448 .fp8e4m3 :=
  if k0_cond5 i = 1#1 then skAll s K else K

set_option maxHeartbeats 4000000 in
/-- The body at a point of phase 0. -/
theorem body_phase0 (c : Dev nD) (E : Set ℕ) (i : grid0.Coords) (h1 : k0_cond1 i = 1#1) (arg3 : Memref sig .tc .vmem S14x128x512 .bf16) (harg3 : arg3.IsWhole) (arg4 : Memref sig .tc .vmem S2048x512 .bf16) (harg4 : arg4.IsWhole) (arg5 : Memref sig .tc .vmem S128x2048 .bf16) (harg5 : arg5.IsWhole) (arg6 : Memref sig .tc .vmem S2048x256 .i8) (harg6 : arg6.IsWhole) (arg7 : Memref sig .tc .vmem S2048x448 .fp8e4m3) (harg7 : arg7.IsWhole) (arg8 : Memref sig .tc .vmem S512x1024 .i8) (harg8 : arg8.IsWhole) (arg9 : Memref sig .tc .vmem S512x128 .fp8e4m3) (harg9 : arg9.IsWhole) (arg10 : Memref sig .tc .vmem S1x1 .f32) (harg10 : arg10.IsWhole) (arg11 : Memref sig .tc .vmem S14x1152x512 .bf16) (harg11 : arg11.IsWhole) (arg12 : Memref sig .tc .vmem S72x448x256 .bf16) (harg12 : arg12.IsWhole) (arg13 : Memref sig .tc .vmem S8x512x256 .fp8e4m3) (harg13 : arg13.IsWhole) (arg14 : Memref sig .tc .vmem S128x512 .f32) (harg14 : arg14.IsWhole) (arg15 : Memref sig .tc .vmem S8x128x256 .f32) (harg15 : arg15.IsWhole) (arg16 : Memref sig .tc .vmem S16x512 .f32) (harg16 : arg16.IsWhole)
    (x3 : Vec F S14x128x512 .bf16) (x4 : Vec F S2048x512 .bf16) (x5 : Vec F S128x2048 .bf16) (x6 : Vec F S2048x256 .i8) (x7 : Vec F S2048x448 .fp8e4m3) (x8 : Vec F S512x1024 .i8) (x9 : Vec F S512x128 .fp8e4m3) (x10 : Vec F S1x1 .f32) (x11 : Vec F S14x1152x512 .bf16) (x12 : Vec F S72x448x256 .bf16) (x13 : Vec F S8x512x256 .fp8e4m3) (x14 : Vec F S128x512 .f32) (x15 : Vec F S8x128x256 .f32) (x16 : Vec F S16x512 .f32) (Kt : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (colMax i h1 x4 x11 k0_t1_loop.trips) ∗ owns (c : Thread nD τ) arg12 fullShare (rowMax i h1 x4 x12 k0_t1_loop.trips) ∗ owns (c : Thread nD τ) arg13 fullShare x13 ∗ owns (c : Thread nD τ) arg14 fullShare x14 ∗ owns (c : Thread nD τ) arg15 fullShare x15 ∗ owns (c : Thread nD τ) arg16 fullShare (allMax i h1 x4 (maxInit i x16) k0_t1_loop.trips)) -∗ Kt ⟨⟩))
      ⊢ wp frame (wpE (defs₀ (F := F)) Variants.none c none) E (cc0__body i arg3 harg3 arg4 harg4 arg5 harg5 arg6 harg6 arg7 harg7 arg8 harg8 arg9 harg9 arg10 harg10 arg11 harg11 arg12 harg12 arg13 harg13 arg14 harg14 arg15 harg15 arg16 harg16) Kt := by
  simp only [cc0__body_eq_skeleton]; unfold cc0__body_skel
  simp only [k0_part5_eq_skeleton, k0_part6_eq_skeleton, k0_part7_eq_skeleton, k0_part8_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf3 hf4 hf5 hf6 hf7 hf8 hf9 hf10 hf11 hf12 hf13 hf14 hf15 hf16
  have h3 := phase_excl i h1
  by_cases h2 : first i
  · rw [maxInit, if_pos h2]
    sl_exec
    sl_step
    iapply Hk
    isplitl [H3]
    · iexists _; isplitr; swap; · iexact H3
      ipureintro
      rfl
    isplitl [H4]
    · iexists _; isplitr; swap; · iexact H4
      ipureintro
      rfl
    isplitl [H5]
    · iexists _; isplitr; swap; · iexact H5
      ipureintro
      rfl
    isplitl [H6]
    · iexists _; isplitr; swap; · iexact H6
      ipureintro
      rfl
    isplitl [H7]
    · iexists _; isplitr; swap; · iexact H7
      ipureintro
      rfl
    isplitl [H8]
    · iexists _; isplitr; swap; · iexact H8
      ipureintro
      rfl
    isplitl [H9]
    · iexists _; isplitr; swap; · iexact H9
      ipureintro
      rfl
    isplitl [H10]
    · iexists _; isplitr; swap; · iexact H10
      ipureintro
      rfl
    isplitl [H11]
    · iexists _; isplitr; swap; · iexact H11
      ipureintro
      exact hL2
    isplitl [H12]
    · iexists _; isplitr; swap; · iexact H12
      ipureintro
      exact hL4
    isplitl [H13]
    · iexists _; isplitr; swap; · iexact H13
      ipureintro
      rfl
    isplitl [H14]
    · iexists _; isplitr; swap; · iexact H14
      ipureintro
      rfl
    isplitl [H15]
    · iexists _; isplitr; swap; · iexact H15
      ipureintro
      rfl
    iexists _; isplitr; swap; · iexact H16
    ipureintro
    exact hL6.trans (congrArg (fun m => allMax i h1 _ m _) (View.read_writes_full _ _ _ _ _))
  · rw [maxInit, if_neg h2]
    sl_exec
    sl_step
    iapply Hk
    isplitl [H3]
    · iexists _; isplitr; swap; · iexact H3
      ipureintro
      rfl
    isplitl [H4]
    · iexists _; isplitr; swap; · iexact H4
      ipureintro
      rfl
    isplitl [H5]
    · iexists _; isplitr; swap; · iexact H5
      ipureintro
      rfl
    isplitl [H6]
    · iexists _; isplitr; swap; · iexact H6
      ipureintro
      rfl
    isplitl [H7]
    · iexists _; isplitr; swap; · iexact H7
      ipureintro
      rfl
    isplitl [H8]
    · iexists _; isplitr; swap; · iexact H8
      ipureintro
      rfl
    isplitl [H9]
    · iexists _; isplitr; swap; · iexact H9
      ipureintro
      rfl
    isplitl [H10]
    · iexists _; isplitr; swap; · iexact H10
      ipureintro
      rfl
    isplitl [H11]
    · iexists _; isplitr; swap; · iexact H11
      ipureintro
      exact hL2
    isplitl [H12]
    · iexists _; isplitr; swap; · iexact H12
      ipureintro
      exact hL4
    isplitl [H13]
    · iexists _; isplitr; swap; · iexact H13
      ipureintro
      rfl
    isplitl [H14]
    · iexists _; isplitr; swap; · iexact H14
      ipureintro
      rfl
    isplitl [H15]
    · iexists _; isplitr; swap; · iexact H15
      ipureintro
      rfl
    iexists _; isplitr; swap; · iexact H16
    ipureintro
    exact hL6

/-- A store that covers an index hides what was there. -/
theorem put_in {s : Shape} {α : Type} (x x' : s.Idx → α) (off size : Fin s.rank → ℕ) (w : ((a : Fin s.rank) → Fin (size a)) → α) (y : s.Idx)
    (h : x y = x' y ∨ ∀ a, off a ≤ (y a).val ∧ (y a).val < off a + size a) : put x off size w y = put x' off size w y := by
  unfold put
  by_cases hh : ∀ a, off a ≤ (y a).val ∧ (y a).val < off a + size a
  · rw [dif_pos hh, dif_pos hh]
  · rw [dif_neg hh, dif_neg hh]; exact h.resolve_right hh

/-- The eight stores cover the window. -/
theorem yAll_congr (st : FVec F S1x1 .f32) (a : Vec F S8x128x256 .f32) (Y Y' : Vec F S128x2048 .bf16) : yAll st a Y = yAll st a Y' := by
  funext y
  have h0 : (y 0).val < 128 := (y 0).isLt
  have h1 : (y 1).val < 2048 := (y 1).isLt
  unfold yAll
  by_cases c7 : 1792 ≤ (y 1).val
  · refine put_in _ _ _ _ _ _ (.inr ?_)
    intro a; fin_cases a
    · show 0 ≤ (y 0).val ∧ (y 0).val < 0 + 128; omega
    · show 1792 ≤ (y 1).val ∧ (y 1).val < 1792 + 256; omega
  refine put_in _ _ _ _ _ _ (.inl ?_)
  by_cases c6 : 1536 ≤ (y 1).val
  · refine put_in _ _ _ _ _ _ (.inr ?_)
    intro a; fin_cases a
    · show 0 ≤ (y 0).val ∧ (y 0).val < 0 + 128; omega
    · show 1536 ≤ (y 1).val ∧ (y 1).val < 1536 + 256; omega
  refine put_in _ _ _ _ _ _ (.inl ?_)
  by_cases c5 : 1280 ≤ (y 1).val
  · refine put_in _ _ _ _ _ _ (.inr ?_)
    intro a; fin_cases a
    · show 0 ≤ (y 0).val ∧ (y 0).val < 0 + 128; omega
    · show 1280 ≤ (y 1).val ∧ (y 1).val < 1280 + 256; omega
  refine put_in _ _ _ _ _ _ (.inl ?_)
  by_cases c4 : 1024 ≤ (y 1).val
  · refine put_in _ _ _ _ _ _ (.inr ?_)
    intro a; fin_cases a
    · show 0 ≤ (y 0).val ∧ (y 0).val < 0 + 128; omega
    · show 1024 ≤ (y 1).val ∧ (y 1).val < 1024 + 256; omega
  refine put_in _ _ _ _ _ _ (.inl ?_)
  by_cases c3 : 768 ≤ (y 1).val
  · refine put_in _ _ _ _ _ _ (.inr ?_)
    intro a; fin_cases a
    · show 0 ≤ (y 0).val ∧ (y 0).val < 0 + 128; omega
    · show 768 ≤ (y 1).val ∧ (y 1).val < 768 + 256; omega
  refine put_in _ _ _ _ _ _ (.inl ?_)
  by_cases c2 : 512 ≤ (y 1).val
  · refine put_in _ _ _ _ _ _ (.inr ?_)
    intro a; fin_cases a
    · show 0 ≤ (y 0).val ∧ (y 0).val < 0 + 128; omega
    · show 512 ≤ (y 1).val ∧ (y 1).val < 512 + 256; omega
  refine put_in _ _ _ _ _ _ (.inl ?_)
  by_cases c1 : 256 ≤ (y 1).val
  · refine put_in _ _ _ _ _ _ (.inr ?_)
    intro a; fin_cases a
    · show 0 ≤ (y 0).val ∧ (y 0).val < 0 + 128; omega
    · show 256 ≤ (y 1).val ∧ (y 1).val < 256 + 256; omega
  refine put_in _ _ _ _ _ _ (.inl ?_)
  refine put_in _ _ _ _ _ _ (.inr ?_)
  intro a; fin_cases a
  · show 0 ≤ (y 0).val ∧ (y 0).val < 0 + 128; omega
  · show 0 ≤ (y 1).val ∧ (y 1).val < 0 + 256; omega

/-- The eight stores cover the window. -/
theorem skAll_congr (a : Vec F S8x512x256 .fp8e4m3) (Y Y' : Vec F S2048x448 .fp8e4m3) : skAll a Y = skAll a Y' := by
  funext y
  have h0 : (y 0).val < 2048 := (y 0).isLt
  have h1 : (y 1).val < 448 := (y 1).isLt
  unfold skAll
  by_cases c7 : 1792 ≤ (y 0).val
  · refine put_in _ _ _ _ _ _ (.inr ?_)
    intro a; fin_cases a
    · show 1792 ≤ (y 0).val ∧ (y 0).val < 1792 + 256; omega
    · show 0 ≤ (y 1).val ∧ (y 1).val < 0 + 448; omega
  refine put_in _ _ _ _ _ _ (.inl ?_)
  by_cases c6 : 1536 ≤ (y 0).val
  · refine put_in _ _ _ _ _ _ (.inr ?_)
    intro a; fin_cases a
    · show 1536 ≤ (y 0).val ∧ (y 0).val < 1536 + 256; omega
    · show 0 ≤ (y 1).val ∧ (y 1).val < 0 + 448; omega
  refine put_in _ _ _ _ _ _ (.inl ?_)
  by_cases c5 : 1280 ≤ (y 0).val
  · refine put_in _ _ _ _ _ _ (.inr ?_)
    intro a; fin_cases a
    · show 1280 ≤ (y 0).val ∧ (y 0).val < 1280 + 256; omega
    · show 0 ≤ (y 1).val ∧ (y 1).val < 0 + 448; omega
  refine put_in _ _ _ _ _ _ (.inl ?_)
  by_cases c4 : 1024 ≤ (y 0).val
  · refine put_in _ _ _ _ _ _ (.inr ?_)
    intro a; fin_cases a
    · show 1024 ≤ (y 0).val ∧ (y 0).val < 1024 + 256; omega
    · show 0 ≤ (y 1).val ∧ (y 1).val < 0 + 448; omega
  refine put_in _ _ _ _ _ _ (.inl ?_)
  by_cases c3 : 768 ≤ (y 0).val
  · refine put_in _ _ _ _ _ _ (.inr ?_)
    intro a; fin_cases a
    · show 768 ≤ (y 0).val ∧ (y 0).val < 768 + 256; omega
    · show 0 ≤ (y 1).val ∧ (y 1).val < 0 + 448; omega
  refine put_in _ _ _ _ _ _ (.inl ?_)
  by_cases c2 : 512 ≤ (y 0).val
  · refine put_in _ _ _ _ _ _ (.inr ?_)
    intro a; fin_cases a
    · show 512 ≤ (y 0).val ∧ (y 0).val < 512 + 256; omega
    · show 0 ≤ (y 1).val ∧ (y 1).val < 0 + 448; omega
  refine put_in _ _ _ _ _ _ (.inl ?_)
  by_cases c1 : 256 ≤ (y 0).val
  · refine put_in _ _ _ _ _ _ (.inr ?_)
    intro a; fin_cases a
    · show 256 ≤ (y 0).val ∧ (y 0).val < 256 + 256; omega
    · show 0 ≤ (y 1).val ∧ (y 1).val < 0 + 448; omega
  refine put_in _ _ _ _ _ _ (.inl ?_)
  refine put_in _ _ _ _ _ _ (.inr ?_)
  intro a; fin_cases a
  · show 0 ≤ (y 0).val ∧ (y 0).val < 0 + 256; omega
  · show 0 ≤ (y 1).val ∧ (y 1).val < 0 + 448; omega

set_option maxHeartbeats 4000000 in
/-- The body at a point of phase 1. -/
theorem body_phase1 (c : Dev nD) (E : Set ℕ) (i : grid0.Coords) (h3 : k0_cond3 i = 1#1) (arg3 : Memref sig .tc .vmem S14x128x512 .bf16) (harg3 : arg3.IsWhole) (arg4 : Memref sig .tc .vmem S2048x512 .bf16) (harg4 : arg4.IsWhole) (arg5 : Memref sig .tc .vmem S128x2048 .bf16) (harg5 : arg5.IsWhole) (arg6 : Memref sig .tc .vmem S2048x256 .i8) (harg6 : arg6.IsWhole) (arg7 : Memref sig .tc .vmem S2048x448 .fp8e4m3) (harg7 : arg7.IsWhole) (arg8 : Memref sig .tc .vmem S512x1024 .i8) (harg8 : arg8.IsWhole) (arg9 : Memref sig .tc .vmem S512x128 .fp8e4m3) (harg9 : arg9.IsWhole) (arg10 : Memref sig .tc .vmem S1x1 .f32) (harg10 : arg10.IsWhole) (arg11 : Memref sig .tc .vmem S14x1152x512 .bf16) (harg11 : arg11.IsWhole) (arg12 : Memref sig .tc .vmem S72x448x256 .bf16) (harg12 : arg12.IsWhole) (arg13 : Memref sig .tc .vmem S8x512x256 .fp8e4m3) (harg13 : arg13.IsWhole) (arg14 : Memref sig .tc .vmem S128x512 .f32) (harg14 : arg14.IsWhole) (arg15 : Memref sig .tc .vmem S8x128x256 .f32) (harg15 : arg15.IsWhole) (arg16 : Memref sig .tc .vmem S16x512 .f32) (harg16 : arg16.IsWhole)
    (x3 : Vec F S14x128x512 .bf16) (x4 : Vec F S2048x512 .bf16) (x5 : Vec F S128x2048 .bf16) (x6 : Vec F S2048x256 .i8) (x7 : Vec F S2048x448 .fp8e4m3) (x8 : Vec F S512x1024 .i8) (x9 : Vec F S512x128 .fp8e4m3) (x10 : Vec F S1x1 .f32) (x11 : Vec F S14x1152x512 .bf16) (x12 : Vec F S72x448x256 .bf16) (x13 : Vec F S8x512x256 .fp8e4m3) (x14 : Vec F S128x512 .f32) (x15 : Vec F S8x128x256 .f32) (x16 : Vec F S16x512 .f32) (Kt : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16
        ∗ (iprop(owns (c : Thread nD τ) arg3 fullShare x3 ∗ owns (c : Thread nD τ) arg4 fullShare x4 ∗ owns (c : Thread nD τ) arg5 fullShare (yOut i (k0_pay51 x16) (accAt i h3 (k0_pay51 x16) x3 x4 x12 (accInit i x15) k0_t2_loop.trips) x5) ∗ owns (c : Thread nD τ) arg6 fullShare (ckAt i h3 (k0_pay51 x16) x4 x12 x6 k0_t2_loop.trips) ∗ owns (c : Thread nD τ) arg7 fullShare (skOut i (skAt i h3 (k0_pay51 x16) x12 x13 k0_t2_loop.trips) x7) ∗ owns (c : Thread nD τ) arg8 fullShare (cnAt i h3 x4 (k0_pay7 (k0_pay54 x16 (colBlk i h3 x11))) x8 k0_t2_loop.trips) ∗ owns (c : Thread nD τ) arg9 fullShare (k0_pay55 x16 (colBlk i h3 x11)) ∗ owns (c : Thread nD τ) arg10 fullShare (k0_pay51 x16) ∗ owns (c : Thread nD τ) arg11 fullShare x11 ∗ owns (c : Thread nD τ) arg12 fullShare x12 ∗ owns (c : Thread nD τ) arg13 fullShare (skAt i h3 (k0_pay51 x16) x12 x13 k0_t2_loop.trips) ∗ owns (c : Thread nD τ) arg14 fullShare (k0_pay7 (k0_pay54 x16 (colBlk i h3 x11))) ∗ owns (c : Thread nD τ) arg15 fullShare (accAt i h3 (k0_pay51 x16) x3 x4 x12 (accInit i x15) k0_t2_loop.trips) ∗ owns (c : Thread nD τ) arg16 fullShare x16) -∗ Kt ⟨⟩))
      ⊢ wp frame (wpE (defs₀ (F := F)) Variants.none c none) E (cc0__body i arg3 harg3 arg4 harg4 arg5 harg5 arg6 harg6 arg7 harg7 arg8 harg8 arg9 harg9 arg10 harg10 arg11 harg11 arg12 harg12 arg13 harg13 arg14 harg14 arg15 harg15 arg16 harg16) Kt := by
  simp only [cc0__body_eq_skeleton]; unfold cc0__body_skel
  simp only [k0_part5_eq_skeleton, k0_part6_eq_skeleton, k0_part7_eq_skeleton, k0_part8_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf3 hf4 hf5 hf6 hf7 hf8 hf9 hf10 hf11 hf12 hf13 hf14 hf15 hf16
  have h1 : ¬ k0_cond1 i = 1#1 := fun h => phase_excl i h h3
  by_cases h4 : rowFirst i
  · by_cases h5 : k0_cond5 i = 1#1
    · rw [accInit, if_pos h4, yOut, skOut, if_pos h5, if_pos h5]
      sl_exec
      sl_step
      have e6 : arg16.view.readAt (Elt F) (Rect.unit ![0, 0] S16x512.size inb_S16x512_S16x512_0_0).toLoadRect f16 = arg16.view.read (Elt F) f16 := View.readAt_full _ _ _
      iapply Hk
      isplitl [H3]
      · iexists _; isplitr; swap; · iexact H3
        ipureintro
        rfl
      isplitl [H4]
      · iexists _; isplitr; swap; · iexact H4
        ipureintro
        rfl
      isplitl [H5]
      · iexists _; isplitr; swap; · iexact H5
        ipureintro
        refine Eq.trans ?_ (congrArg₂ (fun m a => yAll (k0_pay51 m) a (arg5.view.read (Elt F) f5)) e6 (hL11.trans (congrArg₂ (fun m a => accAt i h3 (k0_pay51 m) _ _ _ a _) e6 (View.read_writes_full _ _ _ _ _))))
        refine Eq.trans ?_ (yAll_congr _ _ (arg5.view.read (Elt F) f5) _)
        exact (View.read_writes_cons_put _ _ _ _ _ rfl).trans (congrArg (put · _ _ _) ((View.read_writes_cons_put _ _ _ _ _ rfl).trans (congrArg (put · _ _ _) ((View.read_writes_cons_put _ _ _ _ _ rfl).trans (congrArg (put · _ _ _) ((View.read_writes_cons_put _ _ _ _ _ rfl).trans (congrArg (put · _ _ _) ((View.read_writes_cons_put _ _ _ _ _ rfl).trans (congrArg (put · _ _ _) ((View.read_writes_cons_put _ _ _ _ _ rfl).trans (congrArg (put · _ _ _) ((View.read_writes_cons_put _ _ _ _ _ rfl).trans (congrArg (put · _ _ _) ((View.read_writes_cons_put _ _ _ _ _ rfl).trans (congrArg (put · _ _ _) rfl)))))))))))))))
      isplitl [H6]
      · iexists _; isplitr; swap; · iexact H6
        ipureintro
        exact hL9.trans (congrArg (fun m => ckAt i h3 (k0_pay51 m) _ _ _ _) e6)
      isplitl [H7]
      · iexists _; isplitr; swap; · iexact H7
        ipureintro
        refine Eq.trans ?_ (congrArg (fun a => skAll a (arg7.view.read (Elt F) f7)) (hL7.trans (congrArg (fun m => skAt i h3 (k0_pay51 m) _ _ _) e6)))
        refine Eq.trans ?_ (skAll_congr _ (arg7.view.read (Elt F) f7) _)
        exact (View.read_writes_cons_put _ _ _ _ _ rfl).trans (congrArg (put · _ _ _) ((View.read_writes_cons_put _ _ _ _ _ rfl).trans (congrArg (put · _ _ _) ((View.read_writes_cons_put _ _ _ _ _ rfl).trans (congrArg (put · _ _ _) ((View.read_writes_cons_put _ _ _ _ _ rfl).trans (congrArg (put · _ _ _) ((View.read_writes_cons_put _ _ _ _ _ rfl).trans (congrArg (put · _ _ _) ((View.read_writes_cons_put _ _ _ _ _ rfl).trans (congrArg (put · _ _ _) ((View.read_writes_cons_put _ _ _ _ _ rfl).trans (congrArg (put · _ _ _) ((View.read_writes_cons_put _ _ _ _ _ rfl).trans (congrArg (put · _ _ _) rfl)))))))))))))))
      isplitl [H8]
      · iexists _; isplitr; swap; · iexact H8
        ipureintro
        exact hL5.trans (congrArg (fun n => cnAt i h3 _ n _ _) ((View.read_writes_full _ _ _ _ _).trans (congrArg (fun m => k0_pay7 (k0_pay54 m _)) e6)))
      isplitl [H9]
      · iexists _; isplitr; swap; · iexact H9
        ipureintro
        exact (View.read_writes_full _ _ _ _ _).trans (congrArg (fun m => k0_pay55 m _) e6)
      isplitl [H10]
      · iexists _; isplitr; swap; · iexact H10
        ipureintro
        exact (View.read_writes_full _ _ _ _ _).trans (congrArg k0_pay51 e6)
      isplitl [H11]
      · iexists _; isplitr; swap; · iexact H11
        ipureintro
        rfl
      isplitl [H12]
      · iexists _; isplitr; swap; · iexact H12
        ipureintro
        rfl
      isplitl [H13]
      · iexists _; isplitr; swap; · iexact H13
        ipureintro
        exact hL7.trans (congrArg (fun m => skAt i h3 (k0_pay51 m) _ _ _) e6)
      isplitl [H14]
      · iexists _; isplitr; swap; · iexact H14
        ipureintro
        exact (View.read_writes_full _ _ _ _ _).trans (congrArg (fun m => k0_pay7 (k0_pay54 m _)) e6)
      isplitl [H15]
      · iexists _; isplitr; swap; · iexact H15
        ipureintro
        exact hL11.trans (congrArg₂ (fun m a => accAt i h3 (k0_pay51 m) _ _ _ a _) e6 (View.read_writes_full _ _ _ _ _))
      iexists _; isplitr; swap; · iexact H16
      ipureintro
      rfl
    · rw [accInit, if_pos h4, yOut, skOut, if_neg h5, if_neg h5]
      sl_exec
      sl_step
      have e6 : arg16.view.readAt (Elt F) (Rect.unit ![0, 0] S16x512.size inb_S16x512_S16x512_0_0).toLoadRect f16 = arg16.view.read (Elt F) f16 := View.readAt_full _ _ _
      iapply Hk
      isplitl [H3]
      · iexists _; isplitr; swap; · iexact H3
        ipureintro
        rfl
      isplitl [H4]
      · iexists _; isplitr; swap; · iexact H4
        ipureintro
        rfl
      isplitl [H5]
      · iexists _; isplitr; swap; · iexact H5
        ipureintro
        rfl
      isplitl [H6]
      · iexists _; isplitr; swap; · iexact H6
        ipureintro
        exact hL9.trans (congrArg (fun m => ckAt i h3 (k0_pay51 m) _ _ _ _) e6)
      isplitl [H7]
      · iexists _; isplitr; swap; · iexact H7
        ipureintro
        rfl
      isplitl [H8]
      · iexists _; isplitr; swap; · iexact H8
        ipureintro
        exact hL5.trans (congrArg (fun n => cnAt i h3 _ n _ _) ((View.read_writes_full _ _ _ _ _).trans (congrArg (fun m => k0_pay7 (k0_pay54 m _)) e6)))
      isplitl [H9]
      · iexists _; isplitr; swap; · iexact H9
        ipureintro
        exact (View.read_writes_full _ _ _ _ _).trans (congrArg (fun m => k0_pay55 m _) e6)
      isplitl [H10]
      · iexists _; isplitr; swap; · iexact H10
        ipureintro
        exact (View.read_writes_full _ _ _ _ _).trans (congrArg k0_pay51 e6)
      isplitl [H11]
      · iexists _; isplitr; swap; · iexact H11
        ipureintro
        rfl
      isplitl [H12]
      · iexists _; isplitr; swap; · iexact H12
        ipureintro
        rfl
      isplitl [H13]
      · iexists _; isplitr; swap; · iexact H13
        ipureintro
        exact hL7.trans (congrArg (fun m => skAt i h3 (k0_pay51 m) _ _ _) e6)
      isplitl [H14]
      · iexists _; isplitr; swap; · iexact H14
        ipureintro
        exact (View.read_writes_full _ _ _ _ _).trans (congrArg (fun m => k0_pay7 (k0_pay54 m _)) e6)
      isplitl [H15]
      · iexists _; isplitr; swap; · iexact H15
        ipureintro
        exact hL11.trans (congrArg₂ (fun m a => accAt i h3 (k0_pay51 m) _ _ _ a _) e6 (View.read_writes_full _ _ _ _ _))
      iexists _; isplitr; swap; · iexact H16
      ipureintro
      rfl
  · by_cases h5 : k0_cond5 i = 1#1
    · rw [accInit, if_neg h4, yOut, skOut, if_pos h5, if_pos h5]
      sl_exec
      sl_step
      have e6 : arg16.view.readAt (Elt F) (Rect.unit ![0, 0] S16x512.size inb_S16x512_S16x512_0_0).toLoadRect f16 = arg16.view.read (Elt F) f16 := View.readAt_full _ _ _
      iapply Hk
      isplitl [H3]
      · iexists _; isplitr; swap; · iexact H3
        ipureintro
        rfl
      isplitl [H4]
      · iexists _; isplitr; swap; · iexact H4
        ipureintro
        rfl
      isplitl [H5]
      · iexists _; isplitr; swap; · iexact H5
        ipureintro
        refine Eq.trans ?_ (congrArg₂ (fun m a => yAll (k0_pay51 m) a (arg5.view.read (Elt F) f5)) e6 (hL11.trans (congrArg (fun m => accAt i h3 (k0_pay51 m) _ _ _ _ _) e6)))
        refine Eq.trans ?_ (yAll_congr _ _ (arg5.view.read (Elt F) f5) _)
        exact (View.read_writes_cons_put _ _ _ _ _ rfl).trans (congrArg (put · _ _ _) ((View.read_writes_cons_put _ _ _ _ _ rfl).trans (congrArg (put · _ _ _) ((View.read_writes_cons_put _ _ _ _ _ rfl).trans (congrArg (put · _ _ _) ((View.read_writes_cons_put _ _ _ _ _ rfl).trans (congrArg (put · _ _ _) ((View.read_writes_cons_put _ _ _ _ _ rfl).trans (congrArg (put · _ _ _) ((View.read_writes_cons_put _ _ _ _ _ rfl).trans (congrArg (put · _ _ _) ((View.read_writes_cons_put _ _ _ _ _ rfl).trans (congrArg (put · _ _ _) ((View.read_writes_cons_put _ _ _ _ _ rfl).trans (congrArg (put · _ _ _) rfl)))))))))))))))
      isplitl [H6]
      · iexists _; isplitr; swap; · iexact H6
        ipureintro
        exact hL9.trans (congrArg (fun m => ckAt i h3 (k0_pay51 m) _ _ _ _) e6)
      isplitl [H7]
      · iexists _; isplitr; swap; · iexact H7
        ipureintro
        refine Eq.trans ?_ (congrArg (fun a => skAll a (arg7.view.read (Elt F) f7)) (hL7.trans (congrArg (fun m => skAt i h3 (k0_pay51 m) _ _ _) e6)))
        refine Eq.trans ?_ (skAll_congr _ (arg7.view.read (Elt F) f7) _)
        exact (View.read_writes_cons_put _ _ _ _ _ rfl).trans (congrArg (put · _ _ _) ((View.read_writes_cons_put _ _ _ _ _ rfl).trans (congrArg (put · _ _ _) ((View.read_writes_cons_put _ _ _ _ _ rfl).trans (congrArg (put · _ _ _) ((View.read_writes_cons_put _ _ _ _ _ rfl).trans (congrArg (put · _ _ _) ((View.read_writes_cons_put _ _ _ _ _ rfl).trans (congrArg (put · _ _ _) ((View.read_writes_cons_put _ _ _ _ _ rfl).trans (congrArg (put · _ _ _) ((View.read_writes_cons_put _ _ _ _ _ rfl).trans (congrArg (put · _ _ _) ((View.read_writes_cons_put _ _ _ _ _ rfl).trans (congrArg (put · _ _ _) rfl)))))))))))))))
      isplitl [H8]
      · iexists _; isplitr; swap; · iexact H8
        ipureintro
        exact hL5.trans (congrArg (fun n => cnAt i h3 _ n _ _) ((View.read_writes_full _ _ _ _ _).trans (congrArg (fun m => k0_pay7 (k0_pay54 m _)) e6)))
      isplitl [H9]
      · iexists _; isplitr; swap; · iexact H9
        ipureintro
        exact (View.read_writes_full _ _ _ _ _).trans (congrArg (fun m => k0_pay55 m _) e6)
      isplitl [H10]
      · iexists _; isplitr; swap; · iexact H10
        ipureintro
        exact (View.read_writes_full _ _ _ _ _).trans (congrArg k0_pay51 e6)
      isplitl [H11]
      · iexists _; isplitr; swap; · iexact H11
        ipureintro
        rfl
      isplitl [H12]
      · iexists _; isplitr; swap; · iexact H12
        ipureintro
        rfl
      isplitl [H13]
      · iexists _; isplitr; swap; · iexact H13
        ipureintro
        exact hL7.trans (congrArg (fun m => skAt i h3 (k0_pay51 m) _ _ _) e6)
      isplitl [H14]
      · iexists _; isplitr; swap; · iexact H14
        ipureintro
        exact (View.read_writes_full _ _ _ _ _).trans (congrArg (fun m => k0_pay7 (k0_pay54 m _)) e6)
      isplitl [H15]
      · iexists _; isplitr; swap; · iexact H15
        ipureintro
        exact hL11.trans (congrArg (fun m => accAt i h3 (k0_pay51 m) _ _ _ _ _) e6)
      iexists _; isplitr; swap; · iexact H16
      ipureintro
      rfl
    · rw [accInit, if_neg h4, yOut, skOut, if_neg h5, if_neg h5]
      sl_exec
      sl_step
      have e6 : arg16.view.readAt (Elt F) (Rect.unit ![0, 0] S16x512.size inb_S16x512_S16x512_0_0).toLoadRect f16 = arg16.view.read (Elt F) f16 := View.readAt_full _ _ _
      iapply Hk
      isplitl [H3]
      · iexists _; isplitr; swap; · iexact H3
        ipureintro
        rfl
      isplitl [H4]
      · iexists _; isplitr; swap; · iexact H4
        ipureintro
        rfl
      isplitl [H5]
      · iexists _; isplitr; swap; · iexact H5
        ipureintro
        rfl
      isplitl [H6]
      · iexists _; isplitr; swap; · iexact H6
        ipureintro
        exact hL9.trans (congrArg (fun m => ckAt i h3 (k0_pay51 m) _ _ _ _) e6)
      isplitl [H7]
      · iexists _; isplitr; swap; · iexact H7
        ipureintro
        rfl
      isplitl [H8]
      · iexists _; isplitr; swap; · iexact H8
        ipureintro
        exact hL5.trans (congrArg (fun n => cnAt i h3 _ n _ _) ((View.read_writes_full _ _ _ _ _).trans (congrArg (fun m => k0_pay7 (k0_pay54 m _)) e6)))
      isplitl [H9]
      · iexists _; isplitr; swap; · iexact H9
        ipureintro
        exact (View.read_writes_full _ _ _ _ _).trans (congrArg (fun m => k0_pay55 m _) e6)
      isplitl [H10]
      · iexists _; isplitr; swap; · iexact H10
        ipureintro
        exact (View.read_writes_full _ _ _ _ _).trans (congrArg k0_pay51 e6)
      isplitl [H11]
      · iexists _; isplitr; swap; · iexact H11
        ipureintro
        rfl
      isplitl [H12]
      · iexists _; isplitr; swap; · iexact H12
        ipureintro
        rfl
      isplitl [H13]
      · iexists _; isplitr; swap; · iexact H13
        ipureintro
        exact hL7.trans (congrArg (fun m => skAt i h3 (k0_pay51 m) _ _ _) e6)
      isplitl [H14]
      · iexists _; isplitr; swap; · iexact H14
        ipureintro
        exact (View.read_writes_full _ _ _ _ _).trans (congrArg (fun m => k0_pay7 (k0_pay54 m _)) e6)
      isplitl [H15]
      · iexists _; isplitr; swap; · iexact H15
        ipureintro
        exact hL11.trans (congrArg (fun m => accAt i h3 (k0_pay51 m) _ _ _ _ _) e6)
      iexists _; isplitr; swap; · iexact H16
      ipureintro
      rfl

end Cert.KernelIdeal.Hand

end
-- ==== Proof.Phase0.lean ====
/-
Phase 0 of the kernel: the maxima that one grid point stores.
-/
module
public import proofs.«01_k».proof.Proof.Win
public import proofs.«01_k».proof.Proof.Body
@[expose] public section
set_option maxRecDepth 16384
noncomputable section
open Idealize.ShloMosaic Idealize.ShloMosaic.TcCoe
open Cert.Spec
namespace Cert.KernelIdeal.Hand
open Cert.KernelIdeal Cert.KernelIdeal.Gen
open VecWindow (put window)

/-- The weight block of a grid point, in terms of the whole matrix. -/
def IsW (W : ℕ → ℕ → EReal) (i : grid0.Coords) (X4 : Vec Ideal S2048x512 .bf16) : Prop :=
  ∀ (r : Fin 2048) (j : Fin 512), X4 (ix2 r j) = W (2048 * (i 1).val + r.val) (512 * (i 2).val + j.val)

variable (W : ℕ → ℕ → EReal) (i : grid0.Coords) (h1 : k0_cond1 i = 1#1) (X4 : Vec Ideal S2048x512 .bf16) (hX : IsW W i X4)
include hX

/-- The rows that one trip of phase 0 reads are rows of the weights. -/
theorem rows0_at (k : Fin k0_t1_loop.trips) (r : Fin 256) (j : Fin 512) :
    rows0 i h1 X4 k (ix2 r j) = W (2048 * (i 1).val + (256 * k.val + r.val)) (512 * (i 2).val + j.val) := by
  have hk : k.val < 8 := trips1 ▸ k.isLt
  refine (window2 X4 (k0_off1 k) _ r j ⟨256 * k.val + r.val, by omega⟩ j ?_ ?_).trans (hX _ _)
  · rw [off1_eq]; rfl
  · rw [off1_eq]; exact (Nat.zero_add _).symm

/-- The maxima down the columns, as one point leaves them. -/
theorem colMax_at (A : Vec Ideal S14x1152x512 .bf16) (n : ℕ) (hn : n ≤ 8) (q : Fin 14) (R : Fin 1152) (j : Fin 512) :
    colMax i h1 X4 A n (ix3 q R j)
      = if q.val = (i 2).val ∧ 128 * (i 1).val ≤ R.val ∧ R.val < 128 * (i 1).val + 16 * n
        then nmax W R.val (512 * q.val + j.val) else A (ix3 q R j) := by
  induction n with
  | zero => rw [if_neg (by omega)]; rfl
  | succ n ih =>
    have hn' : n < k0_t1_loop.trips := trips1 ▸ hn
    rw [colMax_succ i h1 X4 A ⟨n, hn'⟩]
    by_cases h : q.val = (i 2).val ∧ 128 * (i 1).val + 16 * n ≤ R.val ∧ R.val < 128 * (i 1).val + 16 * n + 16
    · rw [if_pos (by omega)]
      refine (put3_in _ _ _ q R j 0 ⟨R.val - (128 * (i 1).val + 16 * n), by omega⟩ j ?_ ?_ ?_).trans ?_
      · rw [off2_eq]; exact h.1
      · rw [off2_eq]; exact (Nat.add_sub_of_le h.2.1).symm
      · rw [off2_eq]; exact (Nat.zero_add _).symm
      · rw [pay4_at]
        unfold nmax
        refine congrArg amax (funext fun x => ?_)
        rw [rows0_at W i h1 X4 hX]
        refine congrArg₂ W ?_ ?_
        · show 2048 * (i 1).val + (256 * n + ((R.val - (128 * (i 1).val + 16 * n)) * 16 + x.val)) = _; omega
        · rw [h.1]
    · refine (put3_out _ _ _ q R j ?_).trans ((ih (by omega)).trans ?_)
      · rw [off2_eq]
        show ¬ (((i 2).val ≤ q.val ∧ q.val < (i 2).val + 1) ∧ (128 * (i 1).val + 16 * n ≤ R.val ∧ R.val < 128 * (i 1).val + 16 * n + 16) ∧ _)
        omega
      · by_cases h' : q.val = (i 2).val ∧ 128 * (i 1).val ≤ R.val ∧ R.val < 128 * (i 1).val + 16 * n
        · rw [if_pos h', if_pos (by omega)]
        · rw [if_neg h', if_neg (by omega)]

/-- The maxima along the rows, as one point leaves them. -/
theorem rowMax_at (B : Vec Ideal S72x448x256 .bf16) (n : ℕ) (hn : n ≤ 8) (C : Fin 72) (G : Fin 448) (j : Fin 256) :
    rowMax i h1 X4 B n (ix3 C G j)
      = if (8 * (i 1).val ≤ C.val ∧ C.val < 8 * (i 1).val + n) ∧ 32 * (i 2).val ≤ G.val ∧ G.val < 32 * (i 2).val + 32
        then kmax W (256 * C.val + j.val) G.val else B (ix3 C G j) := by
  induction n with
  | zero => rw [if_neg (by omega)]; rfl
  | succ n ih =>
    have hn' : n < k0_t1_loop.trips := trips1 ▸ hn
    rw [rowMax_succ i h1 X4 B ⟨n, hn'⟩]
    by_cases h : C.val = 8 * (i 1).val + n ∧ 32 * (i 2).val ≤ G.val ∧ G.val < 32 * (i 2).val + 32
    · rw [if_pos (by omega)]
      refine (put3_in _ _ _ C G j 0 ⟨G.val - 32 * (i 2).val, by omega⟩ j ?_ ?_ ?_).trans ?_
      · rw [off3_eq]; exact h.1
      · rw [off3_eq]; exact (Nat.add_sub_of_le h.2.1).symm
      · rw [off3_eq]; exact (Nat.zero_add _).symm
      · rw [pay5_at]
        unfold kmax
        refine congrArg amax (funext fun x => ?_)
        rw [rows0_at W i h1 X4 hX]
        refine congrArg₂ W ?_ ?_
        · show 2048 * (i 1).val + (256 * n + j.val) = _; omega
        · show 512 * (i 2).val + ((G.val - 32 * (i 2).val) * 16 + x.val) = _; omega
    · refine (put3_out _ _ _ C G j ?_).trans ((ih (by omega)).trans ?_)
      · rw [off3_eq]
        show ¬ ((8 * (i 1).val + n ≤ C.val ∧ C.val < 8 * (i 1).val + n + 1) ∧ (32 * (i 2).val ≤ G.val ∧ G.val < 32 * (i 2).val + 32) ∧ _)
        omega
      · by_cases h' : (8 * (i 1).val ≤ C.val ∧ C.val < 8 * (i 1).val + n) ∧ 32 * (i 2).val ≤ G.val ∧ G.val < 32 * (i 2).val + 32
        · rw [if_pos h', if_pos (by omega)]
        · rw [if_neg h', if_neg (by omega)]

/-- The running maxima never fall, and after `n` trips they bound the rows read. -/
theorem allMax_ge (M : Vec Ideal S16x512 .f32) (n : ℕ) (hn : n ≤ 8) (a : Fin 16) (j : Fin 512) :
    M (ix2 a j) ≤ allMax i h1 X4 M n (ix2 a j) := by
  induction n with
  | zero => exact le_rfl
  | succ n ih =>
    rw [allMax_succ i h1 X4 M ⟨n, trips1 ▸ hn⟩, pay6_at]
    exact (ih (by omega)).trans (le_max_left _ _)

/-- Every entry of the rows read is below one of the running maxima. -/
theorem allMax_cover (M : Vec Ideal S16x512 .f32) (n : ℕ) (hn : n ≤ 8) (r : ℕ) (hr : r < 256 * n) (j : Fin 512) :
    ∃ a : Fin 16, ab (W (2048 * (i 1).val + r) (512 * (i 2).val + j.val)) ≤ allMax i h1 X4 M n (ix2 a j) := by
  induction n with
  | zero => omega
  | succ n ih =>
    have hn' : n < k0_t1_loop.trips := trips1 ▸ hn
    rw [allMax_succ i h1 X4 M ⟨n, hn'⟩]
    by_cases h : r < 256 * n
    · obtain ⟨a, ha⟩ := ih (by omega) h
      exact ⟨a, by rw [pay6_at]; exact ha.trans (le_max_left _ _)⟩
    · refine ⟨⟨(r - 256 * n) / 16, by omega⟩, ?_⟩
      rw [pay6_at]
      refine le_trans ?_ (le_max_right _ _)
      refine le_trans (le_of_eq ?_) (le_amax _ ⟨(r - 256 * n) % 16, by omega⟩)
      rw [rows0_at W i h1 X4 hX]
      refine congrArg ab (congrArg₂ W ?_ rfl)
      show _ = 2048 * (i 1).val + (256 * n + ((r - 256 * n) / 16 * 16 + (r - 256 * n) % 16)); omega

/-- A bound of the whole matrix bounds the running maxima. -/
theorem allMax_le (M : Vec Ideal S16x512 .f32) (b : EReal) (hW : ∀ n k, ab (W n k) ≤ b) (n : ℕ) (hn : n ≤ 8) (a : Fin 16) (j : Fin 512)
    (hM : M (ix2 a j) ≤ b) : allMax i h1 X4 M n (ix2 a j) ≤ b := by
  induction n with
  | zero => exact hM
  | succ n ih =>
    rw [allMax_succ i h1 X4 M ⟨n, trips1 ▸ hn⟩, pay6_at]
    refine max_le (ih (by omega)) (amax_le fun x => ?_)
    rw [rows0_at W i h1 X4 hX]
    exact hW _ _

end Cert.KernelIdeal.Hand
-- ==== Proof.Phase1.lean ====
/-
Phase 1 of the kernel: the codes, the scales and the partial products that one grid point stores.
-/
module
public import proofs.«01_k».proof.Proof.Phase0
@[expose] public section
set_option maxRecDepth 16384
noncomputable section
open Idealize.ShloMosaic Idealize.ShloMosaic.TcCoe
open Cert.Spec
namespace Cert.KernelIdeal.Hand
open Cert.KernelIdeal Cert.KernelIdeal.Gen
open VecWindow (put window)

/-- The activations, laid out by block columns. -/
def IsX (X : ℕ → ℕ → EReal) (X3 : Vec Ideal S14x128x512 .bf16) : Prop :=
  ∀ (q : Fin 14) (b : Fin 128) (k : Fin 512), X3 (ix3 q b k) = X b.val (512 * q.val + k.val)

variable (W X : ℕ → ℕ → EReal) (i : grid0.Coords) (h3 : k0_cond3 i = 1#1) (st : FVec Ideal S1x1 .f32)
  (X3 : Vec Ideal S14x128x512 .bf16) (X4 : Vec Ideal S2048x512 .bf16) (B : Vec Ideal S72x448x256 .bf16) (N : Vec Ideal S128x512 .f32)

/-- The rows that one trip of phase 1 reads are rows of the weights. -/
theorem rows1_at (hX : IsW W i X4) (k : Fin k0_t2_loop.trips) (r : Fin 256) (j : Fin 512) :
    rows1 i h3 X4 k (ix2 r j) = W (2048 * (i 1).val + (256 * k.val + r.val)) (512 * (i 2).val + j.val) := by
  have hk : k.val < 8 := trips2 ▸ k.isLt
  refine (window2 X4 (k0_off5 k) _ r j ⟨256 * k.val + r.val, by omega⟩ j ?_ ?_).trans (hX _ _)
  · rw [off5_eq]; rfl
  · rw [off5_eq]; exact (Nat.zero_add _).symm

/-- There are nine block rows. -/
theorem b1 (i : grid0.Coords) : (i 1).val < 9 := (i 1).isLt
/-- There are fourteen block columns. -/
theorem b2 (i : grid0.Coords) : (i 2).val < 14 := (i 2).isLt

section codesN
variable (hX : IsW W i X4)
  (hN : ∀ (R : Fin 128) (j : Fin 512), N (ix2 R j) = rcp (sn W (512 * (i 2).val + j.val) (128 * (i 1).val + R.val) * ts W))
include hX hN

/-- The clipped quotients of one trip, along the columns, are those of the quantiser. -/
theorem nv_at (k : Fin k0_t2_loop.trips) (g : Fin 256) (j : Fin 512) :
    nv (rows1 i h3 X4 k) (recips i h3 N k) g j = nval W (2048 * (i 1).val + (256 * k.val + g.val)) (512 * (i 2).val + j.val) := by
  have hk : k.val < 8 := trips2 ▸ k.isLt
  unfold nv nval
  rw [rows1_at W i h3 X4 hX]
  refine congrArg (fun z => clip (_ * z)) ?_
  refine (window2 N (k0_off6 k) _ ⟨g.val / 16, by omega⟩ j ⟨16 * k.val + g.val / 16, by omega⟩ j ?_ ?_).trans ((hN _ _).trans ?_)
  · rw [off6_eq]; rfl
  · rw [off6_eq]; exact (Nat.zero_add _).symm
  · refine congrArg (fun z => rcp (sn W _ z * _)) ?_
    show 128 * (i 1).val + (16 * k.val + g.val / 16) = _; omega

/-- The packed codes down the columns, as one point leaves them. -/
theorem cnAt_at (C : Vec Ideal S512x1024 .i8) (n : ℕ) (hn : n ≤ 8) (j : Fin 512) (p : Fin 1024) :
    cnAt i h3 X4 N C n (ix2 j p)
      = if p.val < 128 * n then cn W (512 * (i 2).val + j.val) (1024 * (i 1).val + p.val) else C (ix2 j p) := by
  induction n with
  | zero => rw [if_neg (by omega)]; rfl
  | succ n ih =>
    have hn' : n < k0_t2_loop.trips := trips2 ▸ hn
    rw [cnAt_succ i h3 X4 N C ⟨n, hn'⟩]
    by_cases h : 128 * n ≤ p.val ∧ p.val < 128 * n + 128
    · rw [if_pos (by omega)]
      refine (put2_in _ _ _ j p j ⟨p.val - 128 * n, by omega⟩ ?_ ?_).trans ?_
      · rw [off7_eq]; exact (Nat.zero_add _).symm
      · rw [off7_eq]; exact (Nat.add_sub_of_le h.1).symm
      · rw [encN_at, nv_at W i h3 X4 N hX hN, nv_at W i h3 X4 N hX hN]
        unfold cn ncode
        refine congrArg₂ (fun a b => pack (code (nval W a _)) (code (nval W b _))) ?_ ?_
        · show 2048 * (i 1).val + (256 * n + (p.val - 128 * n) * 2) = _; omega
        · show 2048 * (i 1).val + (256 * n + ((p.val - 128 * n) * 2 + 1)) = _; omega
    · refine (put2_out _ _ _ j p ?_).trans ((ih (by omega)).trans ?_)
      · rw [off7_eq]
        show ¬ (_ ∧ (128 * n ≤ p.val ∧ p.val < 128 * n + 128))
        omega
      · by_cases h' : p.val < 128 * n
        · rw [if_pos h', if_pos (by omega)]
        · rw [if_neg h', if_neg (by omega)]
end codesN

section codesK
variable (hX : IsW W i X4) (hst : st (ix2 0 0) = ts W)
  (hB : ∀ (C : Fin 72) (G : Fin 448) (j : Fin 256), B (ix3 C G j) = kmax W (256 * C.val + j.val) G.val)
include hst hB

/-- The scales that one trip gets from the maxima it reads are the row scales. -/
theorem maxima_at (k : Fin k0_t2_loop.trips) (G : Fin 32) (j : Fin 256) :
    scale (st (ix2 0 0)) (maxima i h3 B k (ix3 0 G j)) = sk W (2048 * (i 1).val + (256 * k.val + j.val)) (32 * (i 2).val + G.val) := by
  have hk : k.val < 8 := trips2 ▸ k.isLt
  have := b1 i
  have := b2 i
  rw [hst]
  unfold sk
  refine congrArg (scale _) ?_
  refine (window3 B (k0_off8 i k) _ 0 G j ⟨8 * (i 1).val + k.val, by omega⟩ ⟨32 * (i 2).val + G.val, by omega⟩ j ?_ ?_ ?_).trans ((hB _ _ _).trans ?_)
  · rw [off8_eq]; rfl
  · rw [off8_eq]; rfl
  · rw [off8_eq]; exact (Nat.zero_add _).symm
  · refine congrArg (fun z => kmax W z _) ?_
    show 256 * (8 * (i 1).val + k.val) + j.val = _; omega

/-- The row scales, as one point leaves them. -/
theorem skAt_at (S : Vec Ideal S8x512x256 .fp8e4m3) (n : ℕ) (hn : n ≤ 8) (c : Fin 8) (G : Fin 512) (j : Fin 256) :
    skAt i h3 st B S n (ix3 c G j)
      = if c.val < n ∧ 32 * (i 2).val ≤ G.val ∧ G.val < 32 * (i 2).val + 32
        then sk W (2048 * (i 1).val + (256 * c.val + j.val)) G.val else S (ix3 c G j) := by
  induction n with
  | zero => rw [if_neg (by omega)]; rfl
  | succ n ih =>
    have hn' : n < k0_t2_loop.trips := trips2 ▸ hn
    rw [skAt_succ i h3 st B S ⟨n, hn'⟩]
    by_cases h : c.val = n ∧ 32 * (i 2).val ≤ G.val ∧ G.val < 32 * (i 2).val + 32
    · rw [if_pos (by omega)]
      refine (put3_in _ _ _ c G j 0 ⟨G.val - 32 * (i 2).val, by omega⟩ j ?_ ?_ ?_).trans ?_
      · rw [off9_eq]; exact h.1
      · rw [off9_eq]; exact (Nat.add_sub_of_le h.2.1).symm
      · rw [off9_eq]; exact (Nat.zero_add _).symm
      · rw [pay22_at, maxima_at W i h3 st B hst hB]
        refine congrArg₂ (sk W) ?_ ?_
        · show 2048 * (i 1).val + (256 * n + j.val) = _; omega
        · show 32 * (i 2).val + (G.val - 32 * (i 2).val) = _; omega
    · refine (put3_out _ _ _ c G j ?_).trans ((ih (by omega)).trans ?_)
      · rw [off9_eq]
        show ¬ ((n ≤ c.val ∧ c.val < n + 1) ∧ (32 * (i 2).val ≤ G.val ∧ G.val < 32 * (i 2).val + 32) ∧ _)
        omega
      · by_cases h' : c.val < n ∧ 32 * (i 2).val ≤ G.val ∧ G.val < 32 * (i 2).val + 32
        · rw [if_pos h', if_pos (by omega)]
        · rw [if_neg h', if_neg (by omega)]

include hX

/-- The clipped quotients of one trip, along the rows, are those of the quantiser. -/
theorem kv_at (k : Fin k0_t2_loop.trips) (n : Fin 256) (q : Fin 512) :
    kv st (rows1 i h3 X4 k) (k0_pay21 st (maxima i h3 B k)) n q
      = kval W (2048 * (i 1).val + (256 * k.val + n.val)) (512 * (i 2).val + q.val) := by
  unfold kv kval
  have e : 32 * (i 2).val + (⟨q.val / 16, by omega⟩ : Fin 32).val = (512 * (i 2).val + q.val) / 16 := by
    show 32 * (i 2).val + q.val / 16 = _; omega
  rw [rows1_at W i h3 X4 hX, pay21_at, maxima_at W i h3 st B hst hB, hst, e]

/-- The packed codes along the rows, as one point leaves them. -/
theorem ckAt_at (C : Vec Ideal S2048x256 .i8) (n : ℕ) (hn : n ≤ 8) (r : Fin 2048) (q : Fin 256) :
    ckAt i h3 st X4 B C n (ix2 r q)
      = if r.val < 256 * n then ck W (2048 * (i 1).val + r.val) (256 * (i 2).val + q.val) else C (ix2 r q) := by
  induction n with
  | zero => rw [if_neg (by omega)]; rfl
  | succ n ih =>
    have hn' : n < k0_t2_loop.trips := trips2 ▸ hn
    rw [ckAt_succ i h3 st X4 B C ⟨n, hn'⟩]
    by_cases h : 256 * n ≤ r.val ∧ r.val < 256 * n + 256
    · rw [if_pos (by omega)]
      refine (put2_in _ _ _ r q ⟨r.val - 256 * n, by omega⟩ q ?_ ?_).trans ?_
      · rw [off10_eq]; exact (Nat.add_sub_of_le h.1).symm
      · rw [off10_eq]; exact (Nat.zero_add _).symm
      · rw [encK_at, kv_at W i h3 st X4 B hX hst hB, kv_at W i h3 st X4 B hX hst hB]
        unfold ck kcode
        have e : 2048 * (i 1).val + (256 * n + (r.val - 256 * n)) = 2048 * (i 1).val + r.val := by omega
        refine congrArg₂ pack (congrArg₂ (fun a b => code (kval W a b)) e ?_) (congrArg₂ (fun a b => code (kval W a b)) e ?_)
        · show 512 * (i 2).val + q.val * 2 = _; omega
        · show 512 * (i 2).val + (q.val * 2 + 1) = _; omega
    · refine (put2_out _ _ _ r q ?_).trans ((ih (by omega)).trans ?_)
      · rw [off10_eq]
        show ¬ ((256 * n ≤ r.val ∧ r.val < 256 * n + 256) ∧ _)
        omega
      · by_cases h' : r.val < 256 * n
        · rw [if_pos h', if_pos (by omega)]
        · rw [if_neg h', if_neg (by omega)]

/-- The partial products, as one point leaves them. -/
theorem accAt_at (hX3 : IsX X X3) (A : Vec Ideal S8x128x256 .f32) (n : ℕ) (hn : n ≤ 8) (c : Fin 8) (b : Fin 128) (j : Fin 256) :
    accAt i h3 st X3 X4 B A n (ix3 c b j)
      = if c.val < n then A (ix3 c b j) + ∑ k : Fin 512, term W X b.val (2048 * (i 1).val + (256 * c.val + j.val)) (512 * (i 2).val + k.val)
        else A (ix3 c b j) := by
  induction n with
  | zero => rw [if_neg (by omega)]; rfl
  | succ n ih =>
    have hn' : n < k0_t2_loop.trips := trips2 ▸ hn
    have := b2 i
    rw [accAt_succ i h3 st X3 X4 B A ⟨n, hn'⟩]
    by_cases h : c.val = n
    · rw [if_pos (by omega)]
      refine (put3_in _ _ _ c b j 0 b j ?_ ?_ ?_).trans ?_
      · rw [off11_eq]; exact h
      · rw [off11_eq]; exact (Nat.zero_add _).symm
      · rw [off11_eq]; exact (Nat.zero_add _).symm
      · rw [accK_at]
        refine congrArg₂ (fun a b => a + b) ?_ (Finset.sum_congr rfl fun k _ => ?_)
        · refine (window3 _ _ _ 0 b j c b j ?_ ?_ ?_).trans ((ih (by omega)).trans (if_neg (by omega)))
          · rw [off11_eq]; exact h
          · rw [off11_eq]; exact (Nat.zero_add _).symm
          · rw [off11_eq]; exact (Nat.zero_add _).symm
        · rw [kv_at W i h3 st X4 B hX hst hB, pay20_at, maxima_at W i h3 st B hst hB]
          unfold term kcode
          subst h
          have e : 32 * (i 2).val + (⟨k.val / 16, by omega⟩ : Fin 32).val = (512 * (i 2).val + k.val) / 16 := by
            show 32 * (i 2).val + k.val / 16 = _; omega
          have hx : acts i h3 X3 (ix3 0 b k) = X b.val (512 * (i 2).val + k.val) := by
            refine (window3 X3 (k0_off12 i) _ 0 b k ⟨(i 2).val, by omega⟩ b k ?_ ?_ ?_).trans (hX3 _ _ _)
            · rw [off12_eq]; rfl
            · rw [off12_eq]; exact (Nat.zero_add _).symm
            · rw [off12_eq]; exact (Nat.zero_add _).symm
          rw [hx, e]
    · refine (put3_out _ _ _ c b j ?_).trans ((ih (by omega)).trans ?_)
      · rw [off11_eq]
        show ¬ ((n ≤ c.val ∧ c.val < n + 1) ∧ _)
        omega
      · by_cases h' : c.val < n
        · rw [if_pos h', if_pos (by omega)]
        · rw [if_neg h', if_neg (by omega)]
end codesK

end Cert.KernelIdeal.Hand
-- ==== Proof.Inv.lean ====
/-
What the kernel's scratch holds before each grid point, kept by every point, and what a point of phase 1 leaves in the
result windows.
-/
module
public import proofs.«01_k».proof.Proof.Phase1
@[expose] public section
set_option maxRecDepth 16384
noncomputable section
open Idealize.ShloMosaic Idealize.ShloMosaic.TcCoe
open Cert.Spec
namespace Cert.KernelIdeal.Hand
open Cert.KernelIdeal Cert.KernelIdeal.Gen
open VecWindow (put window)

variable (W X : ℕ → ℕ → EReal)

/-- The scratch before point `t`: the maxima of the blocks of phase 0 that came before, the row scales and the partial
    products of the blocks of the current row of phase 1, and running maxima of all that was read. -/
structure Inv (t : ℕ) (A : Vec Ideal S14x1152x512 .bf16) (B : Vec Ideal S72x448x256 .bf16) (S : Vec Ideal S8x512x256 .fp8e4m3)
    (a : Vec Ideal S8x128x256 .f32) (M : Vec Ideal S16x512 .f32) : Prop where
  colmax : ∀ (q : Fin 14) (R : Fin 1152) (j : Fin 512), R.val / 128 * 14 + q.val < t →
    A (ix3 q R j) = nmax W R.val (512 * q.val + j.val)
  rowmax : ∀ (C : Fin 72) (G : Fin 448) (j : Fin 256), C.val / 8 * 14 + G.val / 32 < t →
    B (ix3 C G j) = kmax W (256 * C.val + j.val) G.val
  scales : ∀ n : ℕ, 126 + 14 * n ≤ t → t ≤ 126 + 14 * n + 14 → ∀ (c : Fin 8) (G : Fin 512) (j : Fin 256),
    126 + 14 * n + G.val / 32 < t → S (ix3 c G j) = sk W (2048 * n + (256 * c.val + j.val)) G.val
  sums : ∀ n : ℕ, 126 + 14 * n < t → t ≤ 126 + 14 * n + 14 → ∀ (c : Fin 8) (b : Fin 128) (j : Fin 256),
    a (ix3 c b j) = ∑ k ∈ Finset.range (512 * (t - 126 - 14 * n)), term W X b.val (2048 * n + (256 * c.val + j.val)) k
  below : 0 < t → ∀ (g : Fin 16) (j : Fin 512), M (ix2 g j) ≤ tmax W
  above : ∀ n k : ℕ, n < 18432 → k < 7168 → n / 2048 * 14 + k / 512 < t →
    ∃ (g : Fin 16) (j : Fin 512), ab (W n k) ≤ M (ix2 g j)

/-- Before the first point nothing is asked of the scratch. -/
theorem Inv.zero (A B S a M) : Inv W X 0 A B S a M where
  colmax _ _ _ h := absurd h (Nat.not_lt_zero _)
  rowmax _ _ _ h := absurd h (Nat.not_lt_zero _)
  scales _ _ _ _ _ _ h := absurd h (Nat.not_lt_zero _)
  sums _ h := absurd h (Nat.not_lt_zero _)
  below h := absurd h (lt_irrefl _)
  above _ _ _ _ h := absurd h (Nat.not_lt_zero _)

variable {W X}

/-- A point of phase 0 keeps the invariant. -/
theorem Inv.phase0 (hW : ∀ n k, ab (W n k) ≤ tmax W) (t : Fin grid0.N) (h1 : k0_cond1 (grid0.coords t) = 1#1)
    {X4 : Vec Ideal S2048x512 .bf16} (hX : IsW W (grid0.coords t) X4) {A B S a M} (h : Inv W X t.val A B S a M) :
    Inv W X (t.val + 1) (colMax (grid0.coords t) h1 X4 A k0_t1_loop.trips) (rowMax (grid0.coords t) h1 X4 B k0_t1_loop.trips) S a
      (allMax (grid0.coords t) h1 X4 (maxInit (grid0.coords t) M) k0_t1_loop.trips) := by
  obtain ⟨e0, e1, e2⟩ := coords_eq t
  have ht0 := (cond1_iff _).mp h1
  have ht : t.val < 126 := by omega
  have ed : t.val % 126 = t.val := Nat.mod_eq_of_lt ht
  rw [ed] at e1
  rw [trips1]
  refine ⟨fun q R j hlt => ?_, fun C G j hlt => ?_, fun n hn => by omega, fun n hn => by omega, fun _ g j => ?_, fun n k hn hk hlt => ?_⟩
  · rw [colMax_at W _ h1 X4 hX A 8 le_rfl]
    by_cases hc : q.val = (grid0.coords t 2).val ∧ 128 * (grid0.coords t 1).val ≤ R.val ∧ R.val < 128 * (grid0.coords t 1).val + 16 * 8
    · rw [if_pos hc]
    · rw [if_neg hc]; exact h.colmax q R j (by omega)
  · rw [rowMax_at W _ h1 X4 hX B 8 le_rfl]
    by_cases hc : (8 * (grid0.coords t 1).val ≤ C.val ∧ C.val < 8 * (grid0.coords t 1).val + 8)
        ∧ 32 * (grid0.coords t 2).val ≤ G.val ∧ G.val < 32 * (grid0.coords t 2).val + 32
    · rw [if_pos hc]
    · rw [if_neg hc]; exact h.rowmax C G j (by omega)
  · refine allMax_le W _ h1 X4 hX _ _ hW 8 le_rfl g j ?_
    unfold maxInit
    by_cases hf : first (grid0.coords t)
    · rw [if_pos hf, pay1_at]; exact (ab_nonneg _).trans (hW 0 0)
    · rw [if_neg hf]
      refine h.below ?_ g j
      rw [first_iff] at hf; omega
  · by_cases hc : n / 2048 = (grid0.coords t 1).val ∧ k / 512 = (grid0.coords t 2).val
    · obtain ⟨g, hg⟩ := allMax_cover W _ h1 X4 hX (maxInit (grid0.coords t) M) 8 le_rfl (n % 2048) (by omega) ⟨k % 512, by omega⟩
      refine ⟨g, ⟨k % 512, by omega⟩, le_trans (le_of_eq ?_) hg⟩
      refine congrArg ab (congrArg₂ W ?_ ?_)
      · omega
      · show k = 512 * (grid0.coords t 2).val + k % 512; omega
    · obtain ⟨g, j, hg⟩ := h.above n k hn hk (by omega)
      refine ⟨g, j, hg.trans (le_trans (le_of_eq ?_) (allMax_ge W _ h1 X4 hX _ 8 le_rfl g j))⟩
      unfold maxInit
      rw [if_neg]
      rw [first_iff]; omega

/-- After phase 0 the running maxima give the tensor scale. -/
theorem Inv.ts_eq {t : ℕ} (ht : 126 ≤ t) {A B S a M} (h : Inv W X t A B S a M) : k0_pay51 M (ix2 0 0) = ts W := by
  rw [pay51_at]
  unfold ts
  refine congrArg (fun z => Ideal.div z _) (le_antisymm ?_ ?_)
  · exact (Finset.fold_max_le _).mpr ⟨bot_le, fun x _ => h.below (by omega) _ _⟩
  · unfold tmax
    refine iSup_le fun p => ?_
    obtain ⟨g, j, hg⟩ := h.above p.1.val p.2.val p.1.isLt p.2.isLt (by have := p.1.isLt; have := p.2.isLt; omega)
    exact (Finset.le_fold_max _).mpr (.inr ⟨(g, j), Finset.mem_univ _, hg⟩)

/-! ### The result windows after a point of phase 1 -/

variable (W X)
/-- The products' window holds the products of its block. -/
def OkY (i : grid0.Coords) (Y : Vec Ideal S128x2048 .bf16) : Prop :=
  ∀ (b : Fin 128) (n : Fin 2048), Y (ix2 b n) = yy W X b.val (2048 * (i 1).val + n.val)
/-- The row codes' window holds the packed row codes of its block. -/
def OkCk (i : grid0.Coords) (Y : Vec Ideal S2048x256 .i8) : Prop :=
  ∀ (r : Fin 2048) (q : Fin 256), Y (ix2 r q) = ck W (2048 * (i 1).val + r.val) (256 * (i 2).val + q.val)
/-- The row scales' window holds the row scales of its block. -/
def OkSk (i : grid0.Coords) (Y : Vec Ideal S2048x448 .fp8e4m3) : Prop :=
  ∀ (r : Fin 2048) (G : Fin 448), Y (ix2 r G) = sk W (2048 * (i 1).val + r.val) G.val
/-- The column codes' window holds the packed column codes of its block. -/
def OkCn (i : grid0.Coords) (Y : Vec Ideal S512x1024 .i8) : Prop :=
  ∀ (j : Fin 512) (p : Fin 1024), Y (ix2 j p) = cn W (512 * (i 2).val + j.val) (1024 * (i 1).val + p.val)
/-- The column scales' window holds the column scales of its block. -/
def OkSn (i : grid0.Coords) (Y : Vec Ideal S512x128 .fp8e4m3) : Prop :=
  ∀ (j : Fin 512) (R : Fin 128), Y (ix2 j R) = sn W (512 * (i 2).val + j.val) (128 * (i 1).val + R.val)
/-- The last window holds the tensor scale. -/
def OkSt (Y : Vec Ideal S1x1 .f32) : Prop := Y (ix2 0 0) = ts W
variable {W X}

/-- One of the stores of the products' window. -/
theorem ystep (z : EReal) (a : Vec Ideal S8x128x256 .f32) (p : Vec Ideal S1x128x256 .f32 → FVec Ideal S128x256 .bf16)
    (hp : ∀ v i n, p v (ix2 i n) = v (ix3 0 i n) * z) (o c : ℕ) (ho : o = 256 * c) (inb) (Y : Vec Ideal S128x2048 .bf16)
    (b : Fin 128) (n : Fin 2048) (hn : n.val < 256 * c + 256)
    (hY : n.val < 256 * c → Y (ix2 b n) = a (ix3 ⟨n.val / 256, by omega⟩ b ⟨n.val % 256, by omega⟩) * z) :
    put Y ![0, o] S128x256.size (p (window a ![c, 0, 0] S1x128x256.size inb)) (ix2 b n)
      = a (ix3 ⟨n.val / 256, by omega⟩ b ⟨n.val % 256, by omega⟩) * z := by
  subst ho
  by_cases h : n.val < 256 * c
  · refine (put2_out _ _ _ b n ?_).trans (hY h)
    show ¬ (_ ∧ (256 * c ≤ n.val ∧ _)); omega
  · refine (put2_in _ _ _ b n b ⟨n.val % 256, by omega⟩ (Nat.zero_add _).symm ?_).trans ?_
    · show n.val = 256 * c + n.val % 256; omega
    · rw [hp]
      refine congrArg (fun w => w * z) (window3 a _ _ 0 b _ _ b _ ?_ (Nat.zero_add _).symm (Nat.zero_add _).symm)
      show n.val / 256 = c; omega

/-- One of the stores of the row scales' window. -/
theorem sstep (s : Vec Ideal S8x512x256 .fp8e4m3) (p : Vec Ideal S1x512x256 .fp8e4m3 → FVec Ideal S256x448 .fp8e4m3)
    (hp : ∀ v (n : Fin 256) (g : Fin 448), p v (ix2 n g) = v (ix3 0 ⟨g.val, by omega⟩ n)) (o c : ℕ) (ho : o = 256 * c) (inb)
    (Y : Vec Ideal S2048x448 .fp8e4m3) (r : Fin 2048) (G : Fin 448) (hn : r.val < 256 * c + 256)
    (hY : r.val < 256 * c → Y (ix2 r G) = s (ix3 ⟨r.val / 256, by omega⟩ ⟨G.val, by omega⟩ ⟨r.val % 256, by omega⟩)) :
    put Y ![o, 0] S256x448.size (p (window s ![c, 0, 0] S1x512x256.size inb)) (ix2 r G)
      = s (ix3 ⟨r.val / 256, by omega⟩ ⟨G.val, by omega⟩ ⟨r.val % 256, by omega⟩) := by
  subst ho
  by_cases h : r.val < 256 * c
  · refine (put2_out _ _ _ r G ?_).trans (hY h)
    show ¬ ((256 * c ≤ r.val ∧ _) ∧ _); omega
  · refine (put2_in _ _ _ r G ⟨r.val % 256, by omega⟩ G ?_ (Nat.zero_add _).symm).trans ?_
    · show r.val = 256 * c + r.val % 256; omega
    · rw [hp]
      refine window3 s _ _ 0 _ _ _ _ _ ?_ (Nat.zero_add _).symm (Nat.zero_add _).symm
      show r.val / 256 = c; omega

/-- The products' window at an index. -/
theorem yAll_at (st : FVec Ideal S1x1 .f32) (a : Vec Ideal S8x128x256 .f32) (Y : Vec Ideal S128x2048 .bf16) (b : Fin 128) (n : Fin 2048) :
    yAll st a Y (ix2 b n) = a (ix3 ⟨n.val / 256, by omega⟩ b ⟨n.val % 256, by omega⟩) * st (ix2 0 0) := by
  unfold yAll
  refine ystep _ a (fun v => k0_pay49 st v) (pay49_at st) 1792 7 rfl _ _ b n (by omega) fun h7 => ?_
  refine ystep _ a (fun v => k0_pay47 st v) (pay47_at st) 1536 6 rfl _ _ b n (by omega) fun h6 => ?_
  refine ystep _ a (fun v => k0_pay45 st (k0_pay44 v)) (pay45_at st) 1280 5 rfl _ _ b n (by omega) fun h5 => ?_
  refine ystep _ a (fun v => k0_pay42 st v) (pay42_at st) 1024 4 rfl _ _ b n (by omega) fun h4 => ?_
  refine ystep _ a (fun v => k0_pay40 st v) (pay40_at st) 768 3 rfl _ _ b n (by omega) fun h3 => ?_
  refine ystep _ a (fun v => k0_pay38 st v) (pay38_at st) 512 2 rfl _ _ b n (by omega) fun h2 => ?_
  refine ystep _ a (fun v => k0_pay36 st v) (pay36_at st) 256 1 rfl _ _ b n (by omega) fun h1 => ?_
  exact ystep _ a (fun v => k0_pay34 st v) (pay34_at st) 0 0 rfl _ _ b n (by omega) fun h0 => by omega

/-- The row scales' window at an index. -/
theorem skAll_at (s : Vec Ideal S8x512x256 .fp8e4m3) (Y : Vec Ideal S2048x448 .fp8e4m3) (r : Fin 2048) (G : Fin 448) :
    skAll s Y (ix2 r G) = s (ix3 ⟨r.val / 256, by omega⟩ ⟨G.val, by omega⟩ ⟨r.val % 256, by omega⟩) := by
  unfold skAll
  refine sstep s (fun v => k0_pay50 v) pay50_at 1792 7 rfl _ _ r G (by omega) fun h7 => ?_
  refine sstep s (fun v => k0_pay48 v) pay48_at 1536 6 rfl _ _ r G (by omega) fun h6 => ?_
  refine sstep s (fun v => k0_pay46 v) pay46_at 1280 5 rfl _ _ r G (by omega) fun h5 => ?_
  refine sstep s (fun v => k0_pay43 v) pay43_at 1024 4 rfl _ _ r G (by omega) fun h4 => ?_
  refine sstep s (fun v => k0_pay41 v) pay41_at 768 3 rfl _ _ r G (by omega) fun h3 => ?_
  refine sstep s (fun v => k0_pay39 v) pay39_at 512 2 rfl _ _ r G (by omega) fun h2 => ?_
  refine sstep s (fun v => k0_pay37 v) pay37_at 256 1 rfl _ _ r G (by omega) fun h1 => ?_
  exact sstep s (fun v => k0_pay35 v) pay35_at 0 0 rfl _ _ r G (by omega) fun h0 => by omega

section phase1
variable (t : Fin grid0.N) (h3 : k0_cond3 (grid0.coords t) = 1#1) {X3 : Vec Ideal S14x128x512 .bf16} {X4 : Vec Ideal S2048x512 .bf16}
  (hX : IsW W (grid0.coords t) X4) (hX3 : IsX X X3)
  {A : Vec Ideal S14x1152x512 .bf16} {B : Vec Ideal S72x448x256 .bf16} {S : Vec Ideal S8x512x256 .fp8e4m3}
  {a : Vec Ideal S8x128x256 .f32} {M : Vec Ideal S16x512 .f32} (h : Inv W X t.val A B S a M)

include h3 in
/-- Points of phase 1 come after the 126 points of phase 0. -/
theorem ge_of_phase1 : 126 ≤ t.val := by
  obtain ⟨e0, e1, e2⟩ := coords_eq t
  have := (cond3_iff _).mp h3
  omega

include h in
/-- In phase 1 the part of the scratch that a point reads holds the column maxima of its block. -/
theorem colBlk_at (R : Fin 128) (j : Fin 512) : colBlk (grid0.coords t) h3 A (ix3 0 R j)
    = nmax W (128 * (grid0.coords t 1).val + R.val) (512 * (grid0.coords t 2).val + j.val) := by
  have ht := ge_of_phase1 t h3
  have := b1 (grid0.coords t)
  have := b2 (grid0.coords t)
  refine (window3 A _ _ 0 R j ⟨(grid0.coords t 2).val, by omega⟩ ⟨128 * (grid0.coords t 1).val + R.val, by omega⟩ j ?_ ?_ ?_).trans
    (h.colmax _ _ _ ?_)
  · rw [off4_eq]; rfl
  · rw [off4_eq]; rfl
  · rw [off4_eq]; exact (Nat.zero_add _).symm
  · show (128 * (grid0.coords t 1).val + R.val) / 128 * 14 + (grid0.coords t 2).val < t.val; omega

include h in
/-- In phase 1 a point computes the reciprocals of the column scales of its block times the tensor scale. -/
theorem n14_at (R : Fin 128) (j : Fin 512) : k0_pay7 (k0_pay54 M (colBlk (grid0.coords t) h3 A)) (ix2 R j)
    = rcp (sn W (512 * (grid0.coords t 2).val + j.val) (128 * (grid0.coords t 1).val + R.val) * ts W) := by
  rw [pay54_at, h.ts_eq (ge_of_phase1 t h3), colBlk_at t h3 h]
  rfl

include h in
/-- The column scales' window. -/
theorem okSn : OkSn W (grid0.coords t) (k0_pay55 M (colBlk (grid0.coords t) h3 A)) := fun j R => by
  rw [pay55_at, h.ts_eq (ge_of_phase1 t h3), colBlk_at t h3 h]
  rfl

include hX h in
/-- The column codes' window. -/
theorem okCn (C : Vec Ideal S512x1024 .i8) : OkCn W (grid0.coords t)
    (cnAt (grid0.coords t) h3 X4 (k0_pay7 (k0_pay54 M (colBlk (grid0.coords t) h3 A))) C k0_t2_loop.trips) := fun j p => by
  rw [trips2, cnAt_at W _ h3 X4 _ hX (n14_at t h3 h) C 8 le_rfl, if_pos (by omega)]

include h h3 in
/-- In phase 1 the scratch holds the row maxima everywhere. -/
theorem rowmax_all (C : Fin 72) (G : Fin 448) (j : Fin 256) : B (ix3 C G j) = kmax W (256 * C.val + j.val) G.val :=
  h.rowmax C G j (by have := ge_of_phase1 t h3; omega)

include hX h in
/-- The row codes' window. -/
theorem okCk (C : Vec Ideal S2048x256 .i8) : OkCk W (grid0.coords t)
    (ckAt (grid0.coords t) h3 (k0_pay51 M) X4 B C k0_t2_loop.trips) := fun r q => by
  rw [trips2, ckAt_at W _ h3 _ X4 B hX (h.ts_eq (ge_of_phase1 t h3)) (rowmax_all t h3 h) C 8 le_rfl, if_pos (by omega)]

include hX hX3 h in
/-- A point of phase 1 keeps the invariant. -/
theorem Inv.phase1 : Inv W X (t.val + 1) A B (skAt (grid0.coords t) h3 (k0_pay51 M) B S k0_t2_loop.trips)
    (accAt (grid0.coords t) h3 (k0_pay51 M) X3 X4 B (accInit (grid0.coords t) a) k0_t2_loop.trips) M := by
  have ht := ge_of_phase1 t h3
  have htN : t.val < 252 := t.isLt
  obtain ⟨e0, e1, e2⟩ := coords_eq t
  have em : t.val % 126 = t.val - 126 := by omega
  rw [em] at e1
  have hst := h.ts_eq ht
  have hB := rowmax_all t h3 h
  rw [trips2]
  refine ⟨fun q R j _ => h.colmax q R j (by omega), fun C G j _ => hB C G j, fun n h1 h2 c G j hlt => ?_, fun n h1 h2 c b j => ?_,
    fun _ => h.below (by omega), fun n k hn hk _ => h.above n k hn hk (by omega)⟩
  · rw [skAt_at W _ h3 _ B hst hB S 8 le_rfl]
    have hn : n = (grid0.coords t 1).val := by omega
    by_cases hc : c.val < 8 ∧ 32 * (grid0.coords t 2).val ≤ G.val ∧ G.val < 32 * (grid0.coords t 2).val + 32
    · rw [if_pos hc, hn]
    · rw [if_neg hc]
      exact h.scales n (by omega) (by omega) c G j (by omega)
  · have hn : n = (grid0.coords t 1).val := by omega
    have hl : 512 * (t.val + 1 - 126 - 14 * n) = 512 * (grid0.coords t 2).val + 512 := by omega
    rw [accAt_at W X _ h3 _ X3 X4 B hX hst hB hX3 _ 8 le_rfl, if_pos c.isLt, hl, Finset.sum_range_add, Finset.sum_range (n := 512), ← hn]
    refine congrArg (fun z => z + _) ?_
    unfold accInit
    by_cases hf : rowFirst (grid0.coords t)
    · rw [if_pos hf, pay52_at, (rowFirst_iff _).mp hf]; rfl
    · rw [if_neg hf]
      rw [rowFirst_iff] at hf
      rw [h.sums n (by omega) (by omega) c b j]
      refine congrArg (fun z => ∑ k ∈ Finset.range z, term W X b.val (2048 * n + (256 * c.val + j.val)) k) ?_
      omega

/-- The products' window at the last point of a row. -/
theorem okY {S' : Vec Ideal S8x512x256 .fp8e4m3} {a' : Vec Ideal S8x128x256 .f32} (ht : 126 ≤ t.val) (h' : Inv W X (t.val + 1) A B S' a' M)
    (hl : (grid0.coords t 2).val = 13) (st : FVec Ideal S1x1 .f32) (hst : st (ix2 0 0) = ts W) (Y : Vec Ideal S128x2048 .bf16) :
    OkY W X (grid0.coords t) (yOut (grid0.coords t) st a' Y) := fun b n => by
  have htN : t.val < 252 := t.isLt
  obtain ⟨e0, e1, e2⟩ := coords_eq t
  have em : t.val % 126 = t.val - 126 := by omega
  rw [em] at e1
  unfold yOut
  rw [if_pos ((cond5_iff _).mpr hl), yAll_at, hst, h'.sums (grid0.coords t 1).val (by omega) (by omega)]
  have e : 512 * (t.val + 1 - 126 - 14 * (grid0.coords t 1).val) = 7168 := by omega
  have e' : 2048 * (grid0.coords t 1).val + (256 * (n.val / 256) + n.val % 256) = 2048 * (grid0.coords t 1).val + n.val := by omega
  rw [e]
  unfold yy
  refine congrArg (fun z => (∑ k ∈ Finset.range 7168, term W X b.val z k) * ts W) e'

/-- The row scales' window at the last point of a row. -/
theorem okSk {S' : Vec Ideal S8x512x256 .fp8e4m3} {a' : Vec Ideal S8x128x256 .f32} (ht : 126 ≤ t.val) (h' : Inv W X (t.val + 1) A B S' a' M)
    (hl : (grid0.coords t 2).val = 13) (Y : Vec Ideal S2048x448 .fp8e4m3) :
    OkSk W (grid0.coords t) (skOut (grid0.coords t) S' Y) := fun r G => by
  have htN : t.val < 252 := t.isLt
  obtain ⟨e0, e1, e2⟩ := coords_eq t
  have em : t.val % 126 = t.val - 126 := by omega
  rw [em] at e1
  unfold skOut
  rw [if_pos ((cond5_iff _).mpr hl), skAll_at, h'.scales (grid0.coords t 1).val (by omega) (by omega)]
  · refine congrArg (fun z => sk W z G.val) ?_
    show 2048 * (grid0.coords t 1).val + (256 * (r.val / 256) + r.val % 256) = 2048 * (grid0.coords t 1).val + r.val; omega
  · show 126 + 14 * (grid0.coords t 1).val + G.val / 32 < t.val + 1; omega

end phase1

end Cert.KernelIdeal.Hand
-- ==== Proof.RefPay.lean ====
/-
The reference's payloads, read at an index, as the mathematics of `Spec`.
-/
module
public import proofs.«01_k».proof.Proof.Gen.ReferenceIdeal.Skeleton
public import proofs.«01_k».proof.Proof.Spec
public import Idealize.ShloMosaic.Lib.Pointwise
@[expose] public section
set_option maxRecDepth 16384
noncomputable section
open Idealize.ShloMosaic Idealize.ShloMosaic.TcCoe Idealize.SL.Sem
open Cert.Spec
namespace Cert.ReferenceIdeal.Hand
open Cert.ReferenceIdeal Cert.ReferenceIdeal.Gen

/-- The weight matrix at natural indices. -/
def Wf (w : Vec Ideal S18432x7168 .bf16) : ℕ → ℕ → EReal := mat fun n k => w (ix2 n k)

/-- The weight matrix at an index that lies in it. -/
theorem Wf_eq (w : Vec Ideal S18432x7168 .bf16) {n k : ℕ} (i : Fin 18432) (j : Fin 7168)
    (hi : n = i.1) (hj : k = j.1) : Wf w n k = w (ix2 i j) := mat_eq _ i j hi hj

variable (w : Vec Ideal S18432x7168 .bf16)

/-- The maximum of all magnitudes. -/
theorem tmax_fold :
    Finset.univ.fold max ⊥ (fun x : Fin 18432 × Fin 7168 => ab (w (ix2 x.1 x.2))) = tmax (Wf w) := by
  rw [fold_eq_iSup]
  exact iSup_congr fun p => congrArg ab (Wf_eq w p.1 p.2 rfl rfl).symm

/-- The tensor scale of the reference. -/
theorem r3 : k0_pay3 (F := Ideal) w (ix2 0 0) = ts (Wf w) := by
  pointwise [k0_pay3, k0_pay2]
  rw [c_bot, c_2688]
  exact congrArg (fun z => Ideal.div z ((2688:ℝ):EReal)) (tmax_fold w)

/-- The row scales of the reference. -/
theorem r5 (n : Fin 18432) (g : Fin 448) : k0_pay5 (F := Ideal) w (ix2 n g) = sk (Wf w) n g := by
  pointwise [k0_pay5, k0_pay4, k0_pay2]
  rw [r3, c_6, c_448, c_bot]
  unfold sk scale
  congr 2
  unfold kmax amax
  congr 1
  funext x
  exact congrArg ab (Wf_eq w n ⟨g.1 * 16 + x.1, by omega⟩ rfl rfl).symm

/-- The clipped quotients of the reference along the rows. -/
theorem r6 (n : Fin 18432) (g : Fin 448) (k : Fin 16) :
    k0_pay6 (F := Ideal) w (ix3 n g k) = kval (Wf w) n (g * 16 + k) := by
  pointwise [k0_pay6, k0_pay4, k0_pay2]
  rw [r3, r5, c_6, c_m6, mul_rcp]
  unfold kval
  rw [show (g.1 * 16 + k.1) / 16 = g.1 by omega,
    Wf_eq w n _ rfl (rfl : _ = Fin.val (⟨g.1 * 16 + k.1, by omega⟩ : Fin 7168))]
  rfl

/-- Their magnitudes. -/
theorem r7 (n : Fin 18432) (g : Fin 448) (k : Fin 16) :
    k0_pay7 (F := Ideal) w (ix3 n g k) = ab (kval (Wf w) n (g * 16 + k)) := by
  pointwise [k0_pay7]
  exact congrArg ab (r6 w n g k)

/-- Whether such a magnitude is below two. -/
theorem r8 (n : Fin 18432) (g : Fin 448) (k : Fin 16) :
    k0_pay8 (F := Ideal) w (ix3 n g k)
      = BitVec.ofBool (decide (ab (kval (Wf w) n (g * 16 + k)) < ((2:ℝ):EReal))) := by
  pointwise [k0_pay8]
  rw [r7, c_2]

/-- Twice the magnitude, rounded to the nearest integer, ties to even. -/
theorem r9 (n : Fin 18432) (g : Fin 448) (k : Fin 16) :
    k0_pay9 (F := Ideal) w (ix3 n g k)
      = Ideal.liftRound Ideal.roundHalfEven (((2:ℝ):EReal) * ab (kval (Wf w) n (g * 16 + k))) := by
  pointwise [k0_pay9]
  rw [r7, c_2]
  try rfl

/-- The packed word of the reference's row codes. -/
theorem r10 (n : Fin 18432) (j : Fin 3584) :
    k0_pay10 (F := Ideal) (k0_pay6 w) (k0_pay7 w) (k0_pay8 w) (k0_pay9 w) (Scalar.ofBits .f32 0x40000000#32) (ix2 n j)
      = por (kval (Wf w) n (2 * j)) (kval (Wf w) n (2 * j + 1)) := by
  pointwise [k0_pay10]
  simp only [r6, r7, r8, r9, sel_dec, c_2, c_4]
  rw [show (j.1 / 8 * 16 + j.1 % 8 * 2 : ℕ) = 2 * j.1 by omega,
    show (j.1 / 8 * 16 + (j.1 % 8 * 2 + 1) : ℕ) = 2 * j.1 + 1 by omega]
  exact congrArg₂ (fun a b => IntOp.ori a (IntOp.shli ArithUnit.vector b 4#32))
    (rcode_clip _) (rcode_clip _)

/-- The transposed weights in groups of sixteen. -/
theorem r11 (k : Fin 7168) (R : Fin 1152) (i : Fin 16) :
    k0_pay11 (F := Ideal) (k0_pay2 w) (ix3 k R i) = Wf w (R * 16 + i) k := by
  pointwise [k0_pay11, k0_pay2]
  exact (Wf_eq w _ k (rfl : _ = Fin.val (⟨R.1 * 16 + i.1, by omega⟩ : Fin 18432)) rfl).symm

/-- The largest magnitude of a column's group. -/
theorem r12 (k : Fin 7168) (R : Fin 1152) :
    k0_pay12 (F := Ideal) (k0_pay2 w) (ix2 k R) = nmax (Wf w) R k := by
  pointwise [k0_pay12, k0_pay11, k0_pay2]
  rw [c_bot]
  unfold nmax amax
  congr 1
  funext x
  exact congrArg ab (Wf_eq w ⟨R.1 * 16 + x.1, by omega⟩ k rfl rfl).symm

/-- The column scales of the reference. -/
theorem r14 (k : Fin 7168) (R : Fin 1152) :
    k0_pay14 (F := Ideal) (k0_pay3 w) (k0_pay12 (k0_pay2 w)) k0_pay13 (ix2 k R) = sn (Wf w) k R := by
  pointwise [k0_pay14, k0_pay13]
  rw [r3, r12, c_6, c_448]
  rfl

/-- The clipped quotients of the reference along the columns. -/
theorem r15 (k : Fin 7168) (R : Fin 1152) (i : Fin 16) :
    k0_pay15 (F := Ideal) (k0_pay3 w) (k0_pay11 (k0_pay2 w)) (k0_pay12 (k0_pay2 w)) k0_pay13 (ix3 k R i)
      = nval (Wf w) (R * 16 + i) k := by
  pointwise [k0_pay15]
  rw [r14 w, r11, r3, c_6, c_m6, mul_rcp]
  unfold nval
  rw [show (R.1 * 16 + i.1) / 16 = R.1 by omega]
  rfl

/-- Their magnitudes rounded to the grid. -/
theorem r16 (k : Fin 7168) (R : Fin 1152) (i : Fin 16) :
    k0_pay16 (F := Ideal) (k0_pay3 w) (k0_pay11 (k0_pay2 w)) (k0_pay12 (k0_pay2 w)) k0_pay13 (ix3 k R i)
      = grid (ab (nval (Wf w) (R * 16 + i) k)) := by
  pointwise [k0_pay16]
  rw [r15, c_2, c_4]
  rfl

/-- Whether such a rounded magnitude is below two. -/
theorem r17 (k : Fin 7168) (R : Fin 1152) (i : Fin 16) :
    k0_pay17 (F := Ideal) (k0_pay3 w) (k0_pay11 (k0_pay2 w)) (k0_pay12 (k0_pay2 w)) k0_pay13 (ix3 k R i)
      = BitVec.ofBool (decide (grid (ab (nval (Wf w) (R * 16 + i) k)) < ((2:ℝ):EReal))) := by
  pointwise [k0_pay17]
  rw [r16, c_2]

/-- The constant two. -/
theorem r18 (k : Fin 7168) (R : Fin 1152) (i : Fin 16) :
    k0_pay18 (F := Ideal) (ix3 k R i) = ((2:ℝ):EReal) := by
  pointwise [k0_pay18]
  rw [c_2]

/-- The packed column codes of the reference. -/
theorem r19 (k : Fin 7168) (j : Fin 9216) :
    k0_pay1 (k0_pay19 (F := Ideal)
      (k0_pay15 (k0_pay3 w) (k0_pay11 (k0_pay2 w)) (k0_pay12 (k0_pay2 w)) k0_pay13)
      (k0_pay16 (k0_pay3 w) (k0_pay11 (k0_pay2 w)) (k0_pay12 (k0_pay2 w)) k0_pay13)
      (k0_pay17 (k0_pay3 w) (k0_pay11 (k0_pay2 w)) (k0_pay12 (k0_pay2 w)) k0_pay13) k0_pay18) (ix2 k j)
      = cn (Wf w) k j := by
  pointwise [k0_pay1, k0_pay19]
  simp only [r15, r16, r17, r18, sel_dec, c_2, c_4]
  rw [show (j.1 / 8 * 16 + j.1 % 8 * 2 : ℕ) = 2 * j.1 by omega,
    show (j.1 / 8 * 16 + (j.1 % 8 * 2 + 1) : ℕ) = 2 * j.1 + 1 by omega]
  refine Eq.trans (congrArg₂ (fun a b => BitVec.setWidth 8 (IntOp.ori a (IntOp.shli ArithUnit.vector b 4#32)))
    (rcode_clip _) (rcode_clip _)) ?_
  exact pack_or _ _

/-- The word of the reference's row codes, named. -/
def rw10 : IVec S18432x3584 32 :=
  k0_pay10 (F := Ideal) (k0_pay6 w) (k0_pay7 w) (k0_pay8 w) (k0_pay9 w) (Scalar.ofBits .f32 0x40000000#32)

/-- The packed row codes of the reference. -/
theorem r32 (n : Fin 18432) (j : Fin 3584) : k0_pay32 (rw10 w) (ix2 n j) = ck (Wf w) n j := by
  pointwise [k0_pay32]
  exact (congrArg (BitVec.setWidth 8) (r10 w n j)).trans (pack_or _ _)

/-- The low half of a packed word is the code of the even column. -/
theorem r22 (n : Fin 18432) (j : Fin 3584) : k0_pay22 (rw10 w) (ix2 n j) = kcode (Wf w) n (2 * j) := by
  pointwise [k0_pay22]
  exact (congrArg (fun z => IntOp.andi z 15#32) (r10 w n j)).trans (pack_lo _ _)

/-- The high half of a packed word is the code of the odd column. -/
theorem r28 (n : Fin 18432) (j : Fin 3584) : k0_pay28 (rw10 w) (ix2 n j) = kcode (Wf w) n (2 * j + 1) := by
  pointwise [k0_pay28]
  exact (congrArg (fun z => IntOp.shrsi ArithUnit.vector z 4#32) (r10 w n j)).trans (pack_hi _ _)

/-- The row scales with an axis of size one added. -/
theorem r20 (n : Fin 18432) (g : Fin 448) : k0_pay20 (F := Ideal) (k0_pay5 w) (ix3 n g 0) = sk (Wf w) n g := by
  pointwise [k0_pay20]
  exact r5 w n g

/-- The even half of the product. -/
theorem r26 (xe : Vec Ideal S128x3584 .bf16) (b : Fin 128) (n : Fin 18432) :
    k0_pay26 (F := Ideal) (k0_pay20 (k0_pay5 w)) xe (k0_pay22 (rw10 w)) (k0_pay23 (rw10 w)) (k0_pay24 (rw10 w))
      (k0_pay25 (rw10 w)) (ix2 b n)
      = ∑ j : Fin 3584, xe (ix2 b j) * (dec (kcode (Wf w) n (2 * j)) * sk (Wf w) n (2 * j / 16)) := by
  pointwise [k0_pay26]
  refine Finset.sum_congr rfl fun j _ => ?_
  rw [r20 w n ⟨j.1 / 8, by omega⟩]
  rw [show (2 * j.1) / 16 = j.1 / 8 by omega]
  have h23 : k0_pay23 (rw10 w) (ix2 n j) = bit (kcode (Wf w) n (2 * j)) 1#32 := by
    pointwise [k0_pay23]; rw [r22]; rfl
  have h24 : k0_pay24 (rw10 w) (ix2 n j) = bit (kcode (Wf w) n (2 * j)) 2#32 := by
    pointwise [k0_pay24]; rw [r22]; rfl
  have h25 : k0_pay25 (rw10 w) (ix2 n j) = bit (kcode (Wf w) n (2 * j)) 4#32 := by
    pointwise [k0_pay25]; rw [r22]; rfl
  rw [h23, h24, h25, r22, c_6, c_4, c_3, c_2, c_32, c_half]
  exact congrArg (fun z => xe (ix2 b j) * (z * sk (Wf w) n (j.1 / 8))) (rdec_code _)

/-- The product of the reference. -/
theorem r31 (xe xo : Vec Ideal S128x3584 .bf16) (b : Fin 128) (n : Fin 18432) :
    k0_pay31 (F := Ideal) (k0_pay3 w) (k0_pay20 (k0_pay5 w))
      (k0_pay26 (k0_pay20 (k0_pay5 w)) xe (k0_pay22 (rw10 w)) (k0_pay23 (rw10 w)) (k0_pay24 (rw10 w))
        (k0_pay25 (rw10 w))) xo (k0_pay28 (rw10 w)) (k0_pay29 (rw10 w)) (k0_pay30 (rw10 w)) 4#32 (ix2 b n)
      = (∑ j : Fin 3584, xe (ix2 b j) * (dec (kcode (Wf w) n (2 * j)) * sk (Wf w) n (2 * j / 16))
        + ∑ j : Fin 3584, xo (ix2 b j) * (dec (kcode (Wf w) n (2 * j + 1)) * sk (Wf w) n ((2 * j + 1) / 16)))
        * ts (Wf w) := by
  pointwise [k0_pay31]
  rw [r26, r3]
  congr 2
  refine Finset.sum_congr rfl fun j _ => ?_
  rw [r20 w n ⟨j.1 / 8, by omega⟩]
  rw [show (2 * j.1 + 1) / 16 = j.1 / 8 by omega]
  have h29 : k0_pay29 (rw10 w) (ix2 n j) = bit (kcode (Wf w) n (2 * j + 1)) 1#32 := by
    pointwise [k0_pay29]; rw [r28]; rfl
  have h30 : k0_pay30 (rw10 w) (ix2 n j) = bit (kcode (Wf w) n (2 * j + 1)) 2#32 := by
    pointwise [k0_pay30]; rw [r28]; rfl
  rw [h29, h30, r28, c_6, c_4, c_3, c_2, c_32, c_half]
  exact congrArg (fun z => xo (ix2 b j) * (z * sk (Wf w) n (j.1 / 8))) (rdec_code _)

end Cert.ReferenceIdeal.Hand
-- ==== Proof.RefVal.lean ====
/-
The reference's result arrays after its run.
-/
module
public import proofs.«01_k».proof.Proof.Gen.ReferenceIdeal.Value
public import proofs.«01_k».proof.Proof.RefPay
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
open Cert.Spec
namespace Cert.ReferenceIdeal.Hand
open Cert.ReferenceIdeal Cert.ReferenceIdeal.Gen
variable (m : (ℓ : Loc nD τ sig) → Buf (Elt Ideal) ℓ)

/-- The weight argument of device `c`. -/
abbrev wA (c : Dev nD) : Vec Ideal S18432x7168 .bf16 := m ((c : Thread nD τ).loc main_arg1)
/-- The activation argument of device `c`. -/
abbrev xA (c : Dev nD) : Vec Ideal S1x128x7168 .bf16 := m ((c : Thread nD τ).loc main_arg0)

/-- The activations at natural indices. -/
def Xf (x : Vec Ideal S1x128x7168 .bf16) : ℕ → ℕ → EReal := mat fun b k => x (ix3 0 b k)

/-- The activations at an index that lies in them. -/
theorem Xf_eq (x : Vec Ideal S1x128x7168 .bf16) {n k : ℕ} (i : Fin 128) (j : Fin 7168)
    (hi : n = i.1) (hj : k = j.1) : Xf x n k = x (ix3 0 i j) := mat_eq _ i j hi hj

/-- The reference has one point, and every window takes its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] :=
  (by decide +kernel : ∀ t : Fin grid0.N, _)

/-- The weights' block is the weights. -/
theorem iblk2 (c : Dev nD) : iblk m c 2 t0_0 = wA m c := by
  blk_ext! [iblk, V, idx t0_0]

/-- Reading a whole array gives the array. -/
theorem ld2 {S : Shape} {e : EltTy} {off : Fin S.rank → Nat} (h : off = fun _ => 0)
    (inb : ∀ a, off a + S.size a ≤ S.size a) (X : S.Idx → Elt Ideal e) :
    View.ld X (Rect.unit off S.size inb) = X := View.ld_unit_zero h inb X

/-- The offsets are zero. -/
theorem z2 : (![0, 0] : Fin 2 → Nat) = fun _ => 0 := by decide

section
variable (x0 x1 : Vec Ideal S128x3584 .bf16) (x2 : Vec Ideal S18432x7168 .bf16)
/-- The weights, from the block that the reference reads. -/
theorem p33 : k0_pay33 x0 x1 x2 = k0_pay2 x2 := congrArg k0_pay2 (View.ld_unit_zero z2 _ x2)
/-- The tensor scale, from the block that the reference reads. -/
theorem p34 : k0_pay34 x0 x1 x2 = k0_pay3 x2 := congrArg k0_pay3 (View.ld_unit_zero z2 _ x2)
/-- The row scales, from the block that the reference reads. -/
theorem p35 : k0_pay35 x0 x1 x2 = k0_pay5 x2 := congrArg k0_pay5 (View.ld_unit_zero z2 _ x2)
/-- The packed row words, from the block that the reference reads. -/
theorem p36 : k0_pay36 x0 x1 x2 = rw10 x2 := congrArg rw10 (View.ld_unit_zero z2 _ x2)
/-- The grouped columns, from the block that the reference reads. -/
theorem p37 : k0_pay37 x0 x1 x2 = k0_pay11 (k0_pay2 x2) := congrArg k0_pay11 (p33 x0 x1 x2)
/-- The column maxima, from the block that the reference reads. -/
theorem p38 : k0_pay38 x0 x1 x2 = k0_pay12 (k0_pay2 x2) := congrArg k0_pay12 (p33 x0 x1 x2)
/-- This constant does not depend on the blocks. -/
theorem p39 : k0_pay39 x0 x1 x2 = k0_pay13 := rfl
/-- The row scales with an added axis, from the block that the reference reads. -/
theorem p40 : k0_pay40 x0 x1 x2 = k0_pay20 (k0_pay5 x2) := congrArg k0_pay20 (p35 x0 x1 x2)
end
/-- The even activations as they are. -/
theorem p21 (x : Vec Ideal S128x3584 .bf16) : k0_pay21 x = x := by
  funext j; pointwise [k0_pay21]
/-- The odd activations as they are. -/
theorem p27 (x : Vec Ideal S128x3584 .bf16) : k0_pay27 x = x := by
  funext j; pointwise [k0_pay27]

/-- The tensor scale of the reference. -/
theorem final8 (c : Dev nD) : (dats m 0 c).arrAt 8 cfg0.N = fun _ : S1x1.Idx => ts (Wf (wA m c)) := by
  refine (dats m 0 c).arrAt_eq_of_after_last 8 t0_0 (by decide +kernel) _ fun j => ?_
  blk_simp
  rw [after0_8]
  frame_out
  rw [iblk2, p34]
  have hj : (show S1x1.Idx from j) = ix2 0 0 := by idx_vars j; blk_ext
  exact (congrArg (k0_pay3 (wA m c)) hj).trans (r3 (wA m c))

/-- The packed row codes of the reference. -/
theorem final4 (c : Dev nD) : (dats m 0 c).arrAt 4 cfg0.N
    = fun j : S18432x3584.Idx => ck (Wf (wA m c)) (j 0).1 (j 1).1 := by
  refine (dats m 0 c).arrAt_eq_of_after_last 4 t0_0 (by decide +kernel) _ fun j => ?_
  blk_simp
  rw [after0_4]
  frame_out
  rw [iblk2, p36]
  idx_vars j
  exact r32 (wA m c) _ _

/-- The row scales of the reference. -/
theorem final5 (c : Dev nD) : (dats m 0 c).arrAt 5 cfg0.N
    = fun j : S18432x448.Idx => sk (Wf (wA m c)) (j 0).1 (j 1).1 := by
  refine (dats m 0 c).arrAt_eq_of_after_last 5 t0_0 (by decide +kernel) _ fun j => ?_
  blk_simp
  rw [after0_5]
  frame_out
  rw [iblk2, p35]
  idx_vars j
  exact r5 (wA m c) _ _

/-- The packed column codes of the reference. -/
theorem final6 (c : Dev nD) : (dats m 0 c).arrAt 6 cfg0.N
    = fun j : S7168x9216.Idx => cn (Wf (wA m c)) (j 0).1 (j 1).1 := by
  refine (dats m 0 c).arrAt_eq_of_after_last 6 t0_0 (by decide +kernel) _ fun j => ?_
  blk_simp
  rw [after0_6]
  frame_out
  rw [iblk2, p34, p37, p38, p39]
  idx_vars j
  exact r19 (wA m c) _ _

/-- The column scales of the reference. -/
theorem final7 (c : Dev nD) : (dats m 0 c).arrAt 7 cfg0.N
    = fun j : S7168x1152.Idx => sn (Wf (wA m c)) (j 0).1 (j 1).1 := by
  refine (dats m 0 c).arrAt_eq_of_after_last 7 t0_0 (by decide +kernel) _ fun j => ?_
  blk_simp
  rw [after0_7]
  frame_out
  rw [iblk2, p34, p38, p39]
  idx_vars j
  exact r14 (wA m c) _ _

/-- The first window holds the even activations. -/
theorem v1 (c : Dev nD) : iblk m c 0 t0_0 = V m c main_v1 := by
  blk_ext! [iblk, idx t0_0]
/-- The second window holds the odd activations. -/
theorem v2 (c : Dev nD) : iblk m c 1 t0_0 = V m c main_v2 := by
  blk_ext! [iblk, idx t0_0]

/-- The first window's entries are the activations at even columns. -/
theorem xe (c : Dev nD) (b : Fin 128) (j : Fin 3584) :
    iblk m c 0 t0_0 (ix2 b j) = Xf (xA m c) b (2 * j) := by
  rw [v1]
  entry_read
  pointwise
  exact (Xf_eq (xA m c) b ⟨2 * j.1, by omega⟩ rfl rfl).symm

/-- The second window's entries are the activations at odd columns. -/
theorem xo (c : Dev nD) (b : Fin 128) (j : Fin 3584) :
    iblk m c 1 t0_0 (ix2 b j) = Xf (xA m c) b (2 * j + 1) := by
  rw [v2]
  entry_read
  pointwise
  exact (Xf_eq (xA m c) b ⟨1 + 2 * j.1, by omega⟩ rfl (Nat.add_comm _ _)).symm

/-- The product of the reference. -/
theorem final3 (c : Dev nD) : (dats m 0 c).arrAt 3 cfg0.N
    = fun j : S128x18432.Idx => yy (Wf (wA m c)) (Xf (xA m c)) (j 0).1 (j 1).1 := by
  refine (dats m 0 c).arrAt_eq_of_after_last 3 t0_0 (by decide +kernel) _ fun j => ?_
  blk_simp
  rw [after0_3]
  frame_out
  rw [iblk2, p34, p36, p40]
  idx_vars j
  refine Eq.trans ?_ ((r31 (wA m c) (iblk m c 0 t0_0) (iblk m c 1 t0_0) j0 j1).trans ?_)
  · rw [p21, p27]
  · unfold yy
    refine congrArg (fun z => z * ts (Wf (wA m c))) ?_
    rw [show (7168 : ℕ) = 2 * 3584 by norm_num, sum_parity, Finset.sum_range, Finset.sum_range]
    refine congrArg₂ (fun a b => a + b) (Finset.sum_congr rfl fun j _ => ?_) (Finset.sum_congr rfl fun j _ => ?_)
    · rw [xe]; rfl
    · rw [xo]; rfl
end Cert.ReferenceIdeal.Hand
-- ==== Proof.Data.lean ====
/-
The kernel's input blocks as parts of the whole arguments.
-/
module
public import proofs.«01_k».proof.Proof.Inv
public import proofs.«01_k».proof.Proof.RefVal
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
open Cert.Spec
namespace Cert.KernelIdeal.Hand
open Cert.KernelIdeal Cert.KernelIdeal.Gen
open Cert.ReferenceIdeal.Hand (Wf Wf_eq Xf Xf_eq)

/-- No entry of the weights, extended by zero, is above their largest magnitude. -/
theorem ab_Wf (w : Vec Ideal S18432x7168 .bf16) (n k : ℕ) : ab (Wf w n k) ≤ tmax (Wf w) := by
  have hle : ∀ p : Fin 18432 × Fin 7168, ab (Wf w p.1 p.2) ≤ tmax (Wf w) := fun p =>
    le_iSup (fun p : Fin 18432 × Fin 7168 => ab (Wf w p.1 p.2)) p
  by_cases h : n < 18432 ∧ k < 7168
  · exact hle (⟨n, h.1⟩, ⟨k, h.2⟩)
  · have e : Wf w n k = 0 := by
      unfold Wf mat
      split_ifs <;> first | rfl | exact absurd (by constructor <;> assumption) h | exact absurd ‹_ ∧ _› h
    rw [e]
    refine le_trans ?_ ((ab_nonneg _).trans (hle (0, 0)))
    simp [ab]

variable (m : (ℓ : Loc nD τ sig) → Buf (Elt Ideal) ℓ)

/-- The weights of device `c`, at natural indices. -/
abbrev Wk (c : Dev nD) : ℕ → ℕ → EReal := Wf (m ((c : Thread nD τ).loc main_arg1))
/-- The activations of device `c`, at natural indices. -/
abbrev Xk (c : Dev nD) : ℕ → ℕ → EReal := Xf (m ((c : Thread nD τ).loc main_arg0))

/-- Which block each input window takes: all activations, and the weight block of the point's row and column. -/
theorem idx : ∀ t : Fin cfg0.N, win0_0.index t = ![0, 0, 0] ∧ win0_1.index t = ![(grid0.coords t 1).val, (grid0.coords t 2).val] :=
  (by decide +kernel : ∀ t : Fin grid0.N, _)

/-- The weight block of a point. -/
theorem isW (c : Dev nD) (t : Fin cfg0.N) : IsW (Wk m c) (grid0.coords t) (iblk m c 1 t) := fun r j => by
  have := b1 (grid0.coords t)
  have := b2 (grid0.coords t)
  rw [Wk, Wf_eq _ ⟨2048 * (grid0.coords t 1).val + r.val, by omega⟩ ⟨512 * (grid0.coords t 2).val + j.val, by omega⟩ rfl rfl]
  blk_ext [iblk, V, idx t]

/-- The activations, whole at every point. -/
theorem iblk0 (c : Dev nD) (t : Fin cfg0.N) : iblk m c 0 t = V m c main_v1 := by
  blk_ext! [iblk, idx t]

/-- The activations' block of a point holds the activations. -/
theorem isX (c : Dev nD) (t : Fin cfg0.N) : IsX (Xk m c) (iblk m c 0 t) := fun q b k => by
  rw [iblk0]
  entry_read
  pointwise
  exact (Xf_eq (m ((c : Thread nD τ).loc main_arg0)) b ⟨q.val * 512 + k.val, by omega⟩ rfl
    (by show 512 * q.val + k.val = q.val * 512 + k.val; omega)).symm

end Cert.KernelIdeal.Hand
-- ==== Proof.Run.lean ====
/-
The kernel's run with what its result windows are left at: the body obligation from the scratch's invariant.
-/
module
public import proofs.«01_k».proof.Proof.Data
public import Idealize.ShloMosaic.Lib.Pipeline.DatRel
public import Idealize.ShloMosaic.Lib.Pipeline.ArrRel
@[expose] public section
set_option maxRecDepth 16384
noncomputable section
namespace Cert.KernelIdeal.Val
open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

local notation "𝕄" => MT nD τ sig Unit (Elt Ideal) ℕ (UR sig nD τ) ℕ

variable (m : (ℓ : Loc nD τ sig) → Buf (Elt Ideal) ℓ) (ρ : Dev nD → PrngReg)

/-- The scratch before point `n`, at contents that meet the invariant. -/
def Φv (c : Dev nD) (n : ℕ) : sProp 𝕄 :=
  iprop(∃ A B S N a M, ⌜Inv (Wk m c) (Xk m c) n A B S a M⌝
    ∗ (owns (c : Thread nD τ) (Memref.whole cc0_scratch0) fullShare A
      ∗ owns (c : Thread nD τ) (Memref.whole cc0_scratch1) fullShare B
      ∗ owns (c : Thread nD τ) (Memref.whole cc0_scratch2) fullShare S
      ∗ owns (c : Thread nD τ) (Memref.whole cc0_scratch3) fullShare N
      ∗ owns (c : Thread nD τ) (Memref.whole cc0_scratch4) fullShare a
      ∗ owns (c : Thread nD τ) (Memref.whole cc0_scratch5) fullShare M)
    ∗ ∃ r, prngReg c r)

/-- The proof data: the inputs' staging buffers at their blocks, the scratch at its invariant. -/
def datv (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨_ + 2, _⟩ => fun _ => Classical.arbitrary _
  Φ n := Φv m c n.val
  q _ := fullShare
  owed _ := 0

/-- The windows that are held to a predicate: the six outputs'. -/
def outs : Fin cfg0.W → Bool := fun w => decide (2 ≤ w.val)

/-- What the body leaves in the result windows at point `t`, once phase 1 has begun. -/
def Rl (c : Dev nD) (w : Fin cfg0.W) (t : Fin cfg0.N) : ((cfg0.win w).block.Idx → Elt Ideal (cfg0.win w).elt) → Prop :=
  match w with
  | ⟨0, _⟩ => fun _ => True
  | ⟨1, _⟩ => fun _ => True
  | ⟨2, _⟩ => fun Y => 126 ≤ t.val → (grid0.coords t 2).val = 13 → OkY (Wk m c) (Xk m c) (grid0.coords t) Y
  | ⟨3, _⟩ => fun Y => 126 ≤ t.val → OkCk (Wk m c) (grid0.coords t) Y
  | ⟨4, _⟩ => fun Y => 126 ≤ t.val → (grid0.coords t 2).val = 13 → OkSk (Wk m c) (grid0.coords t) Y
  | ⟨5, _⟩ => fun Y => 126 ≤ t.val → OkCn (Wk m c) (grid0.coords t) Y
  | ⟨6, _⟩ => fun Y => 126 ≤ t.val → OkSn (Wk m c) (grid0.coords t) Y
  | ⟨7, _⟩ => fun Y => 126 ≤ t.val → OkSt (Wk m c) Y

/-- Each window's array starts with what the region finds in its buffer. -/
theorem A_eq (c : Dev nD) (w : Fin cfg0.W) : (datv m c).A w = V m c (Pipeline.arrRef spec0 w) := by
  dsimp only [datv]
/-- The body leaves the activations' block as it was. -/
theorem after0_0 (c : Dev nD) (t : Fin cfg0.N) : (datv m c).after 0 t = iblk m c 0 t := by dsimp only [datv]
/-- The body leaves the weights' block as it was. -/
theorem after0_1 (c : Dev nD) (t : Fin cfg0.N) : (datv m c).after 1 t = iblk m c 1 t := by dsimp only [datv]
/-- Before the body the activations' window holds the point's block. -/
theorem before0_0 (c : Dev nD) (t : Fin cfg0.N) (d) : (datv m c).before 0 t d = iblk m c 0 t :=
  before0_0_of m (datv m c) (A_eq m c 0) (after0_0 m c) t d
/-- Before the body the weights' window holds the point's block. -/
theorem before0_1 (c : Dev nD) (t : Fin cfg0.N) (d) : (datv m c).before 1 t d = iblk m c 1 t :=
  before0_1_of m (datv m c) (A_eq m c 1) (after0_1 m c) t d

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body obligation with the outputs held to `Rl`. -/
theorem body_obligation (c : Dev nD) :
    BodyObligationRel (datv m c) (defs₀ (F := Ideal)) Variants.none () Set.univ outs (Rl m c) := fun t => by
  rw [bigSep_W0, bigSep_W0, defs₀_row]
  show iprop(Φv m c t.val ∗ (datv m c).owesAt () t.castSucc
    ∗ (∃ d, owns (c : Thread nD τ) (st0_0 t) fullShare ((datv m c).before 0 t d))
    ∗ (∃ d, owns (c : Thread nD τ) (st0_1 t) fullShare ((datv m c).before 1 t d))
    ∗ (∃ Y, ⌜_⌝ ∗ owns (c : Thread nD τ) (st0_2 t) fullShare Y)
    ∗ (∃ Y, ⌜_⌝ ∗ owns (c : Thread nD τ) (st0_3 t) fullShare Y)
    ∗ (∃ Y, ⌜_⌝ ∗ owns (c : Thread nD τ) (st0_4 t) fullShare Y)
    ∗ (∃ Y, ⌜_⌝ ∗ owns (c : Thread nD τ) (st0_5 t) fullShare Y)
    ∗ (∃ Y, ⌜_⌝ ∗ owns (c : Thread nD τ) (st0_6 t) fullShare Y)
    ∗ (∃ Y, ⌜_⌝ ∗ owns (c : Thread nD τ) (st0_7 t) fullShare Y)) ⊢
   wp frame (wpE (defs₀ (F := Ideal)) Variants.none c none) Set.univ (bodyAt0 t) fun _ =>
    iprop(Φv m c (t.val + 1) ∗ (datv m c).owesAt () t.succ
    ∗ owns (c : Thread nD τ) (st0_0 t) fullShare ((datv m c).after 0 t)
    ∗ owns (c : Thread nD τ) (st0_1 t) fullShare ((datv m c).after 1 t)
    ∗ (∃ Y, ⌜126 ≤ t.val → (grid0.coords t 2).val = 13 → OkY (Wk m c) (Xk m c) (grid0.coords t) Y⌝ ∗ owns (c : Thread nD τ) (st0_2 t) fullShare Y)
    ∗ (∃ Y, ⌜126 ≤ t.val → OkCk (Wk m c) (grid0.coords t) Y⌝ ∗ owns (c : Thread nD τ) (st0_3 t) fullShare Y)
    ∗ (∃ Y, ⌜126 ≤ t.val → (grid0.coords t 2).val = 13 → OkSk (Wk m c) (grid0.coords t) Y⌝ ∗ owns (c : Thread nD τ) (st0_4 t) fullShare Y)
    ∗ (∃ Y, ⌜126 ≤ t.val → OkCn (Wk m c) (grid0.coords t) Y⌝ ∗ owns (c : Thread nD τ) (st0_5 t) fullShare Y)
    ∗ (∃ Y, ⌜126 ≤ t.val → OkSn (Wk m c) (grid0.coords t) Y⌝ ∗ owns (c : Thread nD τ) (st0_6 t) fullShare Y)
    ∗ (∃ Y, ⌜126 ≤ t.val → OkSt (Wk m c) Y⌝ ∗ owns (c : Thread nD τ) (st0_7 t) fullShare Y))
  simp only [before0_0, before0_1]
  rw [show (datv m c).owesAt () t.succ = (datv m c).owesAt () t.castSucc from rfl, after0_0, after0_1]
  have hX := isW m c t
  have hX3 := isX m c t
  unfold bodyAt0 Φv
  iintro ⟨⟨%A, %B, %S, %N, %a, %M, %hI, ⟨S11, S12, S13, S14, S15, S16⟩, Hr⟩, Ho, ⟨%d0, H0⟩, ⟨%d1, H1⟩, ⟨%d2, -, H2⟩, ⟨%d3, -, H3⟩, ⟨%d4, -, H4⟩, ⟨%d5, -, H5⟩, ⟨%d6, -, H6⟩, ⟨%d7, -, H7⟩⟩
  by_cases h1 : k0_cond1 (grid0.coords t) = 1#1
  · have hlt : ¬ 126 ≤ t.val := by
      have := (cond1_iff _).mp h1
      have := (coords_eq t).1
      have : t.val < 252 := t.isLt
      omega
    iapply (body_phase0 c Set.univ (grid0.coords t) h1 _ _ _ _ _ _ _ _ _ _ _ _ _ _ _ _ _ _ _ _ _ _ _ _ _ _ _ _ (iblk m c 0 t) (iblk m c 1 t) d2 d3 d4 d5 d6 d7 A B S N a M _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S11]; · iexact S11
    isplitl [S12]; · iexact S12
    isplitl [S13]; · iexact S13
    isplitl [S14]; · iexact S14
    isplitl [S15]; · iexact S15
    isplitl [S16]; · iexact S16
    iintro ⟨H0, H1, H2, H3, H4, H5, H6, H7, S11, S12, S13, S14, S15, S16⟩
    isplitl [S11 S12 S13 S14 S15 S16 Hr]
    · iexists _; iexists _; iexists _; iexists _; iexists _; iexists _
      isplitr; · ipureintro; exact hI.phase0 (ab_Wf _) t h1 hX
      isplitr [Hr]
      · isplitl [S11]; · iexact S11
        isplitl [S12]; · iexact S12
        isplitl [S13]; · iexact S13
        isplitl [S14]; · iexact S14
        isplitl [S15]; · iexact S15
        iexact S16
      iexact Hr
    isplitl [Ho]; · iexact Ho
    isplitl [H0]; · iexact H0
    isplitl [H1]; · iexact H1
    isplitl [H2]
    · iexists _; isplitr; swap; · iexact H2
      ipureintro; exact fun h => absurd h hlt
    isplitl [H3]
    · iexists _; isplitr; swap; · iexact H3
      ipureintro; exact fun h => absurd h hlt
    isplitl [H4]
    · iexists _; isplitr; swap; · iexact H4
      ipureintro; exact fun h => absurd h hlt
    isplitl [H5]
    · iexists _; isplitr; swap; · iexact H5
      ipureintro; exact fun h => absurd h hlt
    isplitl [H6]
    · iexists _; isplitr; swap; · iexact H6
      ipureintro; exact fun h => absurd h hlt
    iexists _; isplitr; swap; · iexact H7
    ipureintro; exact fun h => absurd h hlt
  · have h3 : k0_cond3 (grid0.coords t) = 1#1 := by
      rw [cond3_iff]
      rw [cond1_iff] at h1
      have : (grid0.coords t 0).val < 2 := (grid0.coords t 0).isLt
      omega
    have hge := ge_of_phase1 t h3
    have hst := hI.ts_eq hge
    have hI' := hI.phase1 t h3 hX hX3
    iapply (body_phase1 c Set.univ (grid0.coords t) h3 _ _ _ _ _ _ _ _ _ _ _ _ _ _ _ _ _ _ _ _ _ _ _ _ _ _ _ _ (iblk m c 0 t) (iblk m c 1 t) d2 d3 d4 d5 d6 d7 A B S N a M _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S11]; · iexact S11
    isplitl [S12]; · iexact S12
    isplitl [S13]; · iexact S13
    isplitl [S14]; · iexact S14
    isplitl [S15]; · iexact S15
    isplitl [S16]; · iexact S16
    iintro ⟨H0, H1, H2, H3, H4, H5, H6, H7, S11, S12, S13, S14, S15, S16⟩
    isplitl [S11 S12 S13 S14 S15 S16 Hr]
    · iexists _; iexists _; iexists _; iexists _; iexists _; iexists _
      isplitr; · ipureintro; exact hI'
      isplitr [Hr]
      · isplitl [S11]; · iexact S11
        isplitl [S12]; · iexact S12
        isplitl [S13]; · iexact S13
        isplitl [S14]; · iexact S14
        isplitl [S15]; · iexact S15
        iexact S16
      iexact Hr
    isplitl [Ho]; · iexact Ho
    isplitl [H0]; · iexact H0
    isplitl [H1]; · iexact H1
    isplitl [H2]
    · iexists _; isplitr; swap; · iexact H2
      ipureintro; exact fun _ hl => okY t hge hI' hl _ hst _
    isplitl [H3]
    · iexists _; isplitr; swap; · iexact H3
      ipureintro; exact fun _ => okCk t h3 hX hI _
    isplitl [H4]
    · iexists _; isplitr; swap; · iexact H4
      ipureintro; exact fun _ hl => okSk t hge hI' hl _
    isplitl [H5]
    · iexists _; isplitr; swap; · iexact H5
      ipureintro; exact fun _ => okCn t h3 hX hI _
    isplitl [H6]
    · iexists _; isplitr; swap; · iexact H6
      ipureintro; exact fun _ => okSn t h3 hI
    iexists _; isplitr; swap; · iexact H7
    ipureintro; exact fun _ => hst

/-- The scratch as the region is entered meets the invariant of the first point. -/
theorem Φ_in (c : Dev nD) : (Pipeline.ΦA spec0 c : sProp 𝕄) ⊢ Φv m c 0 := by
  unfold Pipeline.ΦA Φv
  rw [scopedRest0_eq]
  simp only [← owns_whole]
  iintro ⟨⟨⟨%d11, S11⟩, ⟨%d12, S12⟩, ⟨%d13, S13⟩, ⟨%d14, S14⟩, ⟨%d15, S15⟩, ⟨%d16, S16⟩⟩, Hr⟩
  iexists _; iexists _; iexists _; iexists _; iexists _; iexists _
  isplitr; · ipureintro; exact Inv.zero _ _ d11 d12 d13 d15 d16
  isplitr [Hr]
  · isplitl [S11]; · iexact S11
    isplitl [S12]; · iexact S12
    isplitl [S13]; · iexact S13
    isplitl [S14]; · iexact S14
    isplitl [S15]; · iexact S15
    iexact S16
  iexact Hr

/-- The scratch at the end is the scratch at some contents. -/
theorem Φ_out (c : Dev nD) (n : ℕ) : Φv m c n ⊢ (Pipeline.ΦA spec0 c : sProp 𝕄) := by
  unfold Pipeline.ΦA Φv
  rw [scopedRest0_eq]
  simp only [← owns_whole]
  iintro ⟨%A, %B, %S, %N, %a, %M, -, ⟨S11, S12, S13, S14, S15, S16⟩, Hr⟩
  isplitr [Hr]
  · isplitl [S11]; · iexists _; iexact S11
    isplitl [S12]; · iexists _; iexact S12
    isplitl [S13]; · iexists _; iexact S13
    isplitl [S14]; · iexists _; iexact S14
    isplitl [S15]; · iexists _; iexact S15
    iexists _; iexact S16
  iexact Hr

/-- The run, its result windows' write-backs held to `Rl`. -/
theorem run_rel : θ_run defs (onTc (τ := τ) (main (F := Ideal))) (s₀ m ρ)
    (fun r => Pipeline.RDat.FramePost cfg0 (fun c => (datv m c).toRRel outs (Rl m c)) (V m) r ∧ r.2.sem = fun _ => 0) :=
  Pipeline.RDat.θ_run_frame_track (Q' := _) cfgs (0 : Fin 1) launch0 defs₀ Variants.none
    (fun c => (datv m c).toRRel outs (Rl m c)) m ρ main
    (hbody := fun c => (body_obligation m c).toRRel) (hshare := fun c => (datv m c).share_full fun _ => rfl)
    (howed := fun _ _ => rfl) (V := V m) (hmain := hmain m Variants.none) (hA := A_eq m)
    (hin := fun c => Φ_in m c) (hout := fun c => Φ_out m c _)

end Cert.KernelIdeal.Val
-- ==== Proof.Final.lean ====
/-
The kernel's result arrays after its run.
-/
module
public import proofs.«01_k».proof.Proof.Run
@[expose] public section
set_option maxRecDepth 16384
noncomputable section
namespace Cert.KernelIdeal.Val
open Cert.KernelIdeal Cert.KernelIdeal.Gen Cert.KernelIdeal.Hand
open Idealize.ShloMosaic Idealize.ShloMosaic.TcCoe Idealize.SL.Sem
open Idealize.ShloMosaic.Pipeline (Dat RDat)
open Cert.Spec

variable (m : (ℓ : Loc nD τ sig) → Buf (Elt Ideal) ℓ) (ρ : Dev nD → PrngReg)

/-- When each result window is written back: only in phase 1, and those of products and row scales only in the last block column. -/
theorem flushes : ∀ t : Fin cfg0.N,
    ((cfg0.win 2).flush t = true → 126 ≤ t.val ∧ (grid0.coords t 2).val = 13)
    ∧ ((cfg0.win 3).flush t = true → 126 ≤ t.val)
    ∧ ((cfg0.win 4).flush t = true → 126 ≤ t.val ∧ (grid0.coords t 2).val = 13)
    ∧ ((cfg0.win 5).flush t = true → 126 ≤ t.val)
    ∧ ((cfg0.win 6).flush t = true → 126 ≤ t.val)
    ∧ ((cfg0.win 7).flush t = true → 126 ≤ t.val) :=
  (by decide +kernel : ∀ t : Fin grid0.N, _)

/-- In phase 1, which block each result window is written to. -/
theorem oidx : ∀ t : Fin cfg0.N, 126 ≤ t.val →
    win0_2.index t = ![0, (grid0.coords t 1).val] ∧ win0_3.index t = ![(grid0.coords t 1).val, (grid0.coords t 2).val]
    ∧ win0_4.index t = ![(grid0.coords t 1).val, 0] ∧ win0_5.index t = ![(grid0.coords t 2).val, (grid0.coords t 1).val]
    ∧ win0_6.index t = ![(grid0.coords t 2).val, (grid0.coords t 1).val] ∧ win0_7.index t = ![0, 0] :=
  (by decide +kernel : ∀ t : Fin grid0.N, _)

section
variable (c : Dev nD) (after : (w' : Fin cfg0.W) → Fin cfg0.N → (cfg0.win w').block.Idx → Elt Ideal (cfg0.win w').elt)
  (hL : ∀ (w : Fin cfg0.W) (u : Fin cfg0.N), (cfg0.win w).flush u = true → ((datv m c).toRRel outs (Rl m c)).Leaves w u (after w u))
include hL

/-- The product. -/
theorem final2 : (((datv m c).toRRel outs (Rl m c)).withAfter after).arrAt 2 cfg0.N
    = fun j : S128x18432.Idx => yy (Wk m c) (Xk m c) (j 0).1 (j 1).1 := by
  refine Dat.arrAt_eq_of_covers _ 2 _ (by decide +kernel) fun t hf y => ?_
  have hr := (datv m c).toRRel_leaves (rfl : outs 2 = true) (hL 2 t hf)
  obtain ⟨h1, h2⟩ := (flushes t).1 hf
  have ho := hr h1 h2
  have hi := (oidx t h1).1
  blk_simp [hi]
  idx_vars y
  exact (ho y0 y1).trans (congrArg (yy _ _ _) (by omega))

/-- The packed row codes. -/
theorem final3 : (((datv m c).toRRel outs (Rl m c)).withAfter after).arrAt 3 cfg0.N
    = fun j : S18432x3584.Idx => ck (Wk m c) (j 0).1 (j 1).1 := by
  refine Dat.arrAt_eq_of_covers _ 3 _ (by decide +kernel) fun t hf y => ?_
  have hr := (datv m c).toRRel_leaves (rfl : outs 3 = true) (hL 3 t hf)
  have h1 := (flushes t).2.1 hf
  have ho := hr h1
  have hi := (oidx t h1).2.1
  blk_simp [hi]
  idx_vars y
  exact (ho y0 y1).trans (congrArg₂ (ck _) (by omega) (by omega))

/-- The row scales. -/
theorem final4 : (((datv m c).toRRel outs (Rl m c)).withAfter after).arrAt 4 cfg0.N
    = fun j : S18432x448.Idx => sk (Wk m c) (j 0).1 (j 1).1 := by
  refine Dat.arrAt_eq_of_covers _ 4 _ (by decide +kernel) fun t hf y => ?_
  have hr := (datv m c).toRRel_leaves (rfl : outs 4 = true) (hL 4 t hf)
  obtain ⟨h1, h2⟩ := (flushes t).2.2.1 hf
  have ho := hr h1 h2
  have hi := (oidx t h1).2.2.1
  blk_simp [hi]
  idx_vars y
  exact (ho y0 y1).trans (congrArg₂ (sk _) (by omega) rfl)

/-- The packed column codes. -/
theorem final5 : (((datv m c).toRRel outs (Rl m c)).withAfter after).arrAt 5 cfg0.N
    = fun j : S7168x9216.Idx => cn (Wk m c) (j 0).1 (j 1).1 := by
  refine Dat.arrAt_eq_of_covers _ 5 _ (by decide +kernel) fun t hf y => ?_
  have hr := (datv m c).toRRel_leaves (rfl : outs 5 = true) (hL 5 t hf)
  have h1 := (flushes t).2.2.2.1 hf
  have ho := hr h1
  have hi := (oidx t h1).2.2.2.1
  blk_simp [hi]
  idx_vars y
  exact (ho y0 y1).trans (congrArg₂ (cn _) (by omega) (by omega))

/-- The column scales. -/
theorem final6 : (((datv m c).toRRel outs (Rl m c)).withAfter after).arrAt 6 cfg0.N
    = fun j : S7168x1152.Idx => sn (Wk m c) (j 0).1 (j 1).1 := by
  refine Dat.arrAt_eq_of_covers _ 6 _ (by decide +kernel) fun t hf y => ?_
  have hr := (datv m c).toRRel_leaves (rfl : outs 6 = true) (hL 6 t hf)
  have h1 := (flushes t).2.2.2.2.1 hf
  have ho := hr h1
  have hi := (oidx t h1).2.2.2.2.1
  blk_simp [hi]
  idx_vars y
  exact (ho y0 y1).trans (congrArg₂ (sn _) (by omega) (by omega))

/-- The tensor scale. -/
theorem final7 : (((datv m c).toRRel outs (Rl m c)).withAfter after).arrAt 7 cfg0.N
    = fun _ : S1x1.Idx => ts (Wk m c) := by
  refine Dat.arrAt_eq_of_covers _ 7 _ (by decide +kernel) fun t hf y => ?_
  have hr := (datv m c).toRRel_leaves (rfl : outs 7 = true) (hL 7 t hf)
  have h1 := (flushes t).2.2.2.2.2 hf
  have ho := hr h1
  have hi := (oidx t h1).2.2.2.2.2
  blk_simp [hi]
  idx_vars y
  obtain rfl : y0 = 0 := Subsingleton.elim _ _
  obtain rfl : y1 = 0 := Subsingleton.elim _ _
  exact ho

end

/-- The kernel's run: every result array is a function of the arguments, and the arguments are kept. -/
theorem run_values : θ_run defs (onTc (τ := τ) (main (F := Ideal))) ⟨m, fun _ => 0, ρ⟩ fun r => ∀ c : Dev nD,
      r.2.mem ((c : Thread nD τ).loc main_v2_0) = (fun j : S128x18432.Idx => yy (Wk m c) (Xk m c) (j 0).1 (j 1).1)
      ∧ r.2.mem ((c : Thread nD τ).loc main_v2_1) = (fun j : S18432x3584.Idx => ck (Wk m c) (j 0).1 (j 1).1)
      ∧ r.2.mem ((c : Thread nD τ).loc main_v2_2) = (fun j : S18432x448.Idx => sk (Wk m c) (j 0).1 (j 1).1)
      ∧ r.2.mem ((c : Thread nD τ).loc main_v2_3) = (fun j : S7168x9216.Idx => cn (Wk m c) (j 0).1 (j 1).1)
      ∧ r.2.mem ((c : Thread nD τ).loc main_v2_4) = (fun j : S7168x1152.Idx => sn (Wk m c) (j 0).1 (j 1).1)
      ∧ r.2.mem ((c : Thread nD τ).loc main_v2_5) = (fun _ : S1x1.Idx => ts (Wk m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => by
    obtain ⟨after, hL, hA⟩ := RDat.FramePost.exists_exact h.1 c
    exact ⟨(hA 2).trans (final2 m c after hL), (hA 3).trans (final3 m c after hL), (hA 4).trans (final4 m c after hL),
      (hA 5).trans (final5 m c after hL), (hA 6).trans (final6 m c after hL), (hA 7).trans (final7 m c after hL),
      ((h.1 c).2 main_arg0 (Pipeline.mem_restRefs_of main_arg0 (by decide) (by decide))).trans (V_main_arg0 m c),
      (RDat.FramePost.arr_in h.1 c 1 rfl).trans ((A_eq m c 1).trans (V_main_arg1 m c))⟩) (run_rel m ρ)

end Cert.KernelIdeal.Val
-- ==== Proof.Equal.lean ====
/-
The value claim: the kernel and the reference end with equal results.
-/
module
public import proofs.«01_k».proof.Defs
public import proofs.«01_k».proof.Proof.Final
@[expose] public section
set_option maxRecDepth 16384
noncomputable section
open Idealize.ShloMosaic Idealize.ShloMosaic.TcCoe Idealize.SL.Sem
open Cert.Spec
namespace Cert.Equal

/-- The kernel and the reference, run on the same arguments, end with the same six result arrays: those of the
    quantiser's mathematics. -/
theorem algebraic : Cert.algebraic_KernelIdeal_ReferenceIdeal := by
  intro m g m' g' _ hag
  refine ⟨_, _, _, _, _, _, Cert.KernelIdeal.Val.run_values m g, ?_⟩
  refine (θ_run Cert.ReferenceIdeal.defs _ _).mono (fun r h c => ?_) (Cert.ReferenceIdeal.Value.run_blocks m' g')
  obtain ⟨h0, h1⟩ := hag c
  obtain ⟨r0, r1, r2, r3, r4, r5, r6, r7⟩ := h c
  have eW : Cert.ReferenceIdeal.Hand.Wf (Cert.ReferenceIdeal.Hand.wA m' c) = Cert.KernelIdeal.Hand.Wk m c :=
    congrArg Cert.ReferenceIdeal.Hand.Wf h1
  have eX : Cert.ReferenceIdeal.Hand.Xf (Cert.ReferenceIdeal.Hand.xA m' c) = Cert.KernelIdeal.Hand.Xk m c :=
    congrArg Cert.ReferenceIdeal.Hand.Xf h0
  refine ⟨r0.trans ((Cert.ReferenceIdeal.Hand.final3 m' c).trans ?_), r1.trans ((Cert.ReferenceIdeal.Hand.final4 m' c).trans ?_),
    r2.trans ((Cert.ReferenceIdeal.Hand.final5 m' c).trans ?_), r3.trans ((Cert.ReferenceIdeal.Hand.final6 m' c).trans ?_),
    r4.trans ((Cert.ReferenceIdeal.Hand.final7 m' c).trans ?_), r5.trans ((Cert.ReferenceIdeal.Hand.final8 m' c).trans ?_), r6, r7⟩
  · rw [eW, eX]
  · rw [eW]
  · rw [eW]
  · rw [eW]
  · rw [eW]
  · rw [eW]

end Cert.Equal
-- ==== Proof.lean ====
module

public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.HandFrame
public import proofs.«01_k».proof.Proof.HandFrameBits
public import proofs.«01_k».proof.Proof.Equal
public import Idealize.ShloMosaic.Adequacy
public import Idealize.ShloMosaic.Init

@[expose] public section

noncomputable section

namespace Cert.Proof

open Idealize.ShloMosaic Idealize.SL.Sem Cert.Kernel

/-- All the claims: the three frames, the preservation (no rewrites), and the value claim. -/
theorem claim : Cert.Claim := ⟨Cert.Kernel.Gen.facts, Cert.KernelIdeal.Gen.facts, Cert.ReferenceIdeal.Gen.facts,
  fun m g _ => Cert.Kernel.Hand.frame m g, fun m g _ => Cert.KernelIdeal.Hand.frame m g,
  fun m g _ => Cert.ReferenceIdeal.Gen.frame m g, trivial, Cert.Equal.algebraic⟩

end Cert.Proof

end
